-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![1, 512, 1024]⟩ ⟨3, ![1, 2048, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 2048, 8, 128]⟩ ⟨4, ![1, 8192, 8, 128]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 8, 128]⟩ ⟨4, ![1, 8192, 8, 128]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = Layout.block ⟨3, ![1, 512, 1024]⟩ ⟨3, ![1, 2048, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x512x1024 : Shape := ⟨3, ![1, 512, 1024]⟩
abbrev S1024x1024 : Shape := ⟨2, ![1024, 1024]⟩
abbrev S1x2048x8x128 : Shape := ⟨4, ![1, 2048, 8, 128]⟩
abbrev S_ : Shape := ⟨0, ![]⟩

class Facts : Prop where
  bcast_S_S1x512x1024 : S_.BroadcastsInDim S1x512x1024 (![] : Fin 0 → Fin S1x512x1024.rank)
  bcast_S_S1024x1024 : S_.BroadcastsInDim S1024x1024 (![] : Fin 0 → Fin S1024x1024.rank)
  bcast_S_S1x2048x8x128 : S_.BroadcastsInDim S1x2048x8x128 (![] : Fin 0 → Fin S1x2048x8x128.rank)

variable [Facts]

def fn {F : FTy → Type} [FloatOps F] (main_arg0 : FVec F S1x512x1024 .bf16) (main_arg1 : FVec F S1024x1024 .bf16) (main_arg2 : FVec F S1x2048x8x128 .bf16) (main_arg3 : FVec F S1x2048x8x128 .bf16) (main_arg4 : FVec F S1024x1024 .bf16) : IVec S1x512x1024 1 × IVec S1024x1024 1 × IVec S1x2048x8x128 1 :=
  let main_v0 : FVec F S1x512x1024 .bf16 := Host.absf main_arg0
  let main_cst : FVec F S_ .bf16 := constant S_ .bf16 0x7F80#16
  let main_v1 : FVec F S1x512x1024 .bf16 := broadcastInDim S1x512x1024 ![] bcast_S_S1x512x1024 main_cst
  let main_v2 : IVec S1x512x1024 1 := cmpf .olt main_v0 main_v1
  let main_v3 : FVec F S1024x1024 .bf16 := Host.absf main_arg1
  let main_cst_0 : FVec F S_ .bf16 := constant S_ .bf16 0x7F80#16
  let main_v4 : FVec F S1024x1024 .bf16 := broadcastInDim S1024x1024 ![] bcast_S_S1024x1024 main_cst_0
  let main_v5 : IVec S1024x1024 1 := cmpf .olt main_v3 main_v4
  let main_v6 : FVec F S1x2048x8x128 .bf16 := Host.absf main_arg2
  let main_cst_1 : FVec F S_ .bf16 := constant S_ .bf16 0x7F80#16
  let main_v7 : FVec F S1x2048x8x128 .bf16 := broadcastInDim S1x2048x8x128 ![] bcast_S_S1x2048x8x128 main_cst_1
  let main_v8 : IVec S1x2048x8x128 1 := cmpf .olt main_v6 main_v7
  (main_v2, main_v5, main_v8)
-- ==== Pre_finite_ReferenceIdeal.lean ====
abbrev S1x2048x1024 : Shape := ⟨3, ![1, 2048, 1024]⟩
abbrev S1024x1024 : Shape := ⟨2, ![1024, 1024]⟩
abbrev S1x8192x8x128 : Shape := ⟨4, ![1, 8192, 8, 128]⟩
abbrev S_ : Shape := ⟨0, ![]⟩

class Facts : Prop where
  bcast_S_S1x2048x1024 : S_.BroadcastsInDim S1x2048x1024 (![] : Fin 0 → Fin S1x2048x1024.rank)
  bcast_S_S1024x1024 : S_.BroadcastsInDim S1024x1024 (![] : Fin 0 → Fin S1024x1024.rank)
  bcast_S_S1x8192x8x128 : S_.BroadcastsInDim S1x8192x8x128 (![] : Fin 0 → Fin S1x8192x8x128.rank)

variable [Facts]

def fn {F : FTy → Type} [FloatOps F] (main_arg0 : FVec F S1x2048x1024 .bf16) (main_arg1 : FVec F S1024x1024 .bf16) (main_arg2 : FVec F S1x8192x8x128 .bf16) (main_arg3 : FVec F S1x8192x8x128 .bf16) (main_arg4 : FVec F S1024x1024 .bf16) : IVec S1x2048x1024 1 × IVec S1024x1024 1 × IVec S1x8192x8x128 1 :=
  let main_v0 : FVec F S1x2048x1024 .bf16 := Host.absf main_arg0
  let main_cst : FVec F S_ .bf16 := constant S_ .bf16 0x7F80#16
  let main_v1 : FVec F S1x2048x1024 .bf16 := broadcastInDim S1x2048x1024 ![] bcast_S_S1x2048x1024 main_cst
  let main_v2 : IVec S1x2048x1024 1 := cmpf .olt main_v0 main_v1
  let main_v3 : FVec F S1024x1024 .bf16 := Host.absf main_arg1
  let main_cst_0 : FVec F S_ .bf16 := constant S_ .bf16 0x7F80#16
  let main_v4 : FVec F S1024x1024 .bf16 := broadcastInDim S1024x1024 ![] bcast_S_S1024x1024 main_cst_0
  let main_v5 : IVec S1024x1024 1 := cmpf .olt main_v3 main_v4
  let main_v6 : FVec F S1x8192x8x128 .bf16 := Host.absf main_arg2
  let main_cst_1 : FVec F S_ .bf16 := constant S_ .bf16 0x7F80#16
  let main_v7 : FVec F S1x8192x8x128 .bf16 := broadcastInDim S1x8192x8x128 ![] bcast_S_S1x8192x8x128 main_cst_1
  let main_v8 : IVec S1x8192x8x128 1 := cmpf .olt main_v6 main_v7
  (main_v2, main_v5, main_v8)
-- ==== Kernel.lean ====
abbrev S1x512x1024 : Shape := ⟨3, ![1, 512, 1024]⟩
abbrev S1024x1024 : Shape := ⟨2, ![1024, 1024]⟩
abbrev S1x2048x8x128 : Shape := ⟨4, ![1, 2048, 8, 128]⟩
abbrev S512x1024 : Shape := ⟨2, ![512, 1024]⟩
abbrev S2048x8x128 : Shape := ⟨3, ![2048, 8, 128]⟩
abbrev S2x2048x8x128 : Shape := ⟨4, ![2, 2048, 8, 128]⟩
abbrev S2x8x2048x128 : Shape := ⟨4, ![2, 8, 2048, 128]⟩
abbrev S3x512x1024 : Shape := ⟨3, ![3, 512, 1024]⟩
abbrev S8x512x128 : Shape := ⟨3, ![8, 512, 128]⟩
abbrev S3x8x512x128 : Shape := ⟨4, ![3, 8, 512, 128]⟩
abbrev S3x8x512 : Shape := ⟨3, ![3, 8, 512]⟩
abbrev S3 : Shape := ⟨1, ![3]⟩
abbrev S_ : Shape := ⟨0, ![]⟩
abbrev S1 : Shape := ⟨1, ![1]⟩
abbrev S512x128 : Shape := ⟨2, ![512, 128]⟩
abbrev S1x1x1024x128 : Shape := ⟨4, ![1, 1, 1024, 128]⟩
abbrev S1024x128 : Shape := ⟨2, ![1024, 128]⟩
abbrev S512 : Shape := ⟨1, ![512]⟩
abbrev S1x512x128 : Shape := ⟨3, ![1, 512, 128]⟩
abbrev S1x1x512x128 : Shape := ⟨4, ![1, 1, 512, 128]⟩
abbrev S1x1x512 : Shape := ⟨3, ![1, 1, 512]⟩
abbrev S1x8x512x128 : Shape := ⟨4, ![1, 8, 512, 128]⟩
abbrev S1x8x512 : Shape := ⟨3, ![1, 8, 512]⟩
abbrev S8x512 : Shape := ⟨2, ![8, 512]⟩
abbrev S512x1 : Shape := ⟨2, ![512, 1]⟩
abbrev S128x1024 : Shape := ⟨2, ![128, 1024]⟩

abbrev nBuf : Space → Nat
  | .hbm => 14
  | .vmem => 11
  | .smem => 0
  | _ => 0

abbrev bufTy : (tb : Table) → Fin (tcTables nBuf tb) → BufTy
  | .hbm, ⟨0, _⟩ => ⟨S1x512x1024, .bf16⟩
  | .hbm, ⟨1, _⟩ => ⟨S1024x1024, .bf16⟩
  | .hbm, ⟨2, _⟩ => ⟨S1x2048x8x128, .bf16⟩
  | .hbm, ⟨3, _⟩ => ⟨S1x2048x8x128, .bf16⟩
  | .hbm, ⟨4, _⟩ => ⟨S1024x1024, .bf16⟩
  | .hbm, ⟨5, _⟩ => ⟨S512x1024, .bf16⟩
  | .hbm, ⟨6, _⟩ => ⟨S2048x8x128, .bf16⟩
  | .hbm, ⟨7, _⟩ => ⟨S2048x8x128, .bf16⟩
  | .hbm, ⟨8, _⟩ => ⟨S1x2048x8x128, .bf16⟩
  | .hbm, ⟨9, _⟩ => ⟨S1x2048x8x128, .bf16⟩
  | .hbm, ⟨10, _⟩ => ⟨S2x2048x8x128, .bf16⟩
  | .hbm, ⟨11, _⟩ => ⟨S2x8x2048x128, .bf16⟩
  | .hbm, ⟨12, _⟩ => ⟨S512x1024, .f32⟩
  | .hbm, ⟨13, _⟩ => ⟨S1x512x1024, .f32⟩
  | .local _ .vmem, ⟨0, _⟩ => ⟨S512x1024, .bf16⟩
  | .local _ .vmem, ⟨1, _⟩ => ⟨S1024x1024, .bf16⟩
  | .local _ .vmem, ⟨2, _⟩ => ⟨S1024x1024, .bf16⟩
  | .local _ .vmem, ⟨3, _⟩ => ⟨S2x8x2048x128, .bf16⟩
  | .local _ .vmem, ⟨4, _⟩ => ⟨S512x1024, .f32⟩
  | .local _ .vmem, ⟨5, _⟩ => ⟨S3x512x1024, .bf16⟩
  | .local _ .vmem, ⟨6, _⟩ => ⟨S8x512x128, .f32⟩
  | .local _ .vmem, ⟨7, _⟩ => ⟨S3x8x512x128, .f32⟩
  | .local _ .vmem, ⟨8, _⟩ => ⟨S3x8x512x128, .f32⟩
  | .local _ .vmem, ⟨9, _⟩ => ⟨S3x8x512, .f32⟩
  | .local _ .vmem, ⟨10, _⟩ => ⟨S3x8x512, .f32⟩
  | _, _ => ⟨S1x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_dev3 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_23 : BitVec 32 := 1#32
  let v31 : BitVec 32 := Scalar.muli v25 c1_i32_23
  let v32 : BitVec 32 := Scalar.addi c0_i32_24 v31
  v32.toNat
def k0_dev4 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_42 : BitVec 32 := 1#32
  let v53 : BitVec 32 := Scalar.muli v25 c1_i32_42
  let v54 : BitVec 32 := Scalar.addi c0_i32_43 v53
  v54.toNat
def k0_dev5 (d0 : Dev nD) : Nat :=
  let c0_i32_380 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_379 : BitVec 32 := 1#32
  let v367 : BitVec 32 := Scalar.muli v25 c1_i32_379
  let v368 : BitVec 32 := Scalar.addi c0_i32_380 v367
  v368.toNat
def k0_dev6 (d0 : Dev nD) : Nat :=
  let c0_i32_392 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_391 : BitVec 32 := 1#32
  let v377 : BitVec 32 := Scalar.muli v25 c1_i32_391
  let v378 : BitVec 32 := Scalar.addi c0_i32_392 v377
  v378.toNat
def k0_dev7 (d0 : Dev nD) : Nat :=
  let c0_i32_412 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_411 : BitVec 32 := 1#32
  let v395 : BitVec 32 := Scalar.muli v25 c1_i32_411
  let v396 : BitVec 32 := Scalar.addi c0_i32_412 v395
  v396.toNat
def k0_dev8 (d0 : Dev nD) : Nat :=
  let c0_i32_835 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_834 : BitVec 32 := 1#32
  let v773 : BitVec 32 := Scalar.muli v25 c1_i32_834
  let v774 : BitVec 32 := Scalar.addi c0_i32_835 v773
  v774.toNat
def k0_dev9 (d0 : Dev nD) : Nat :=
  let c0_i32_847 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_846 : BitVec 32 := 1#32
  let v783 : BitVec 32 := Scalar.muli v25 c1_i32_846
  let v784 : BitVec 32 := Scalar.addi c0_i32_847 v783
  v784.toNat
def k0_dev10 (d0 : Dev nD) : Nat :=
  let c0_i32_1280 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1279 : BitVec 32 := 1#32
  let v1169 : BitVec 32 := Scalar.muli v25 c1_i32_1279
  let v1170 : BitVec 32 := Scalar.addi c0_i32_1280 v1169
  v1170.toNat
def k0_dev11 (d0 : Dev nD) : Nat :=
  let c0_i32_1292 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1291 : BitVec 32 := 1#32
  let v1179 : BitVec 32 := Scalar.muli v25 c1_i32_1291
  let v1180 : BitVec 32 := Scalar.addi c0_i32_1292 v1179
  v1180.toNat
abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1x2048x1024 : Shape := ⟨3, ![1, 2048, 1024]⟩
abbrev S1024x1024 : Shape := ⟨2, ![1024, 1024]⟩
abbrev S1x8192x8x128 : Shape := ⟨4, ![1, 8192, 8, 128]⟩
abbrev S1x2048x8x128 : Shape := ⟨4, ![1, 2048, 8, 128]⟩
abbrev S1x8x2048x8192 : Shape := ⟨4, ![1, 8, 2048, 8192]⟩
abbrev S_ : Shape := ⟨0, ![]⟩
abbrev S1x8x2048 : Shape := ⟨3, ![1, 8, 2048]⟩
abbrev S1x8x2048x1 : Shape := ⟨4, ![1, 8, 2048, 1]⟩
abbrev S1x8x128x2048 : Shape := ⟨4, ![1, 8, 128, 2048]⟩
abbrev S1x2048x8x1 : Shape := ⟨4, ![1, 2048, 8, 1]⟩

abbrev nBuf : Space → Nat
  | .hbm => 32
  | .vmem => 0
  | .smem => 0
  | _ => 0

abbrev bufTy : (tb : Table) → Fin (tcTables nBuf tb) → BufTy
  | .hbm, ⟨0, _⟩ => ⟨S1x2048x1024, .bf16⟩
  | .hbm, ⟨1, _⟩ => ⟨S1024x1024, .bf16⟩
  | .hbm, ⟨2, _⟩ => ⟨S1x8192x8x128, .bf16⟩
  | .hbm, ⟨3, _⟩ => ⟨S1x8192x8x128, .bf16⟩
  | .hbm, ⟨4, _⟩ => ⟨S1024x1024, .bf16⟩
  | .hbm, ⟨5, _⟩ => ⟨S1x2048x1024, .f32⟩
  | .hbm, ⟨6, _⟩ => ⟨S1x2048x1024, .bf16⟩
  | .hbm, ⟨7, _⟩ => ⟨S1x2048x8x128, .bf16⟩
  | .hbm, ⟨8, _⟩ => ⟨S1x8x2048x8192, .f32⟩
  | .hbm, ⟨9, _⟩ => ⟨S1x8x2048x8192, .bf16⟩
  | .hbm, ⟨10, _⟩ => ⟨S1x8x2048x8192, .f32⟩
  | .hbm, ⟨11, _⟩ => ⟨S_, .f32⟩
  | .hbm, ⟨12, _⟩ => ⟨S1x8x2048x8192, .f32⟩
  | .hbm, ⟨13, _⟩ => ⟨S1x8x2048x8192, .f32⟩
  | .hbm, ⟨14, _⟩ => ⟨S_, .f32⟩
  | .hbm, ⟨15, _⟩ => ⟨S1x8x2048, .f32⟩
  | .hbm, ⟨16, _⟩ => ⟨S1x8x2048x1, .f32⟩
  | .hbm, ⟨17, _⟩ => ⟨S1x8x2048x8192, .f32⟩
  | .hbm, ⟨18, _⟩ => ⟨S1x8x2048x8192, .f32⟩
  | .hbm, ⟨19, _⟩ => ⟨S1x8x2048x8192, .f32⟩
  | .hbm, ⟨20, _⟩ => ⟨S_, .f32⟩
  | .hbm, ⟨21, _⟩ => ⟨S1x8x2048, .f32⟩
  | .hbm, ⟨22, _⟩ => ⟨S1x8x2048x1, .f32⟩
  | .hbm, ⟨23, _⟩ => ⟨S1x8192x8x128, .f32⟩
  | .hbm, ⟨24, _⟩ => ⟨S1x8x128x2048, .f32⟩
  | .hbm, ⟨25, _⟩ => ⟨S1x2048x8x128, .f32⟩
  | .hbm, ⟨26, _⟩ => ⟨S1x2048x8x1, .f32⟩
  | .hbm, ⟨27, _⟩ => ⟨S1x2048x8x128, .f32⟩
  | .hbm, ⟨28, _⟩ => ⟨S1x2048x8x128, .f32⟩
  | .hbm, ⟨29, _⟩ => ⟨S1x2048x1024, .f32⟩
  | .hbm, ⟨30, _⟩ => ⟨S1024x1024, .f32⟩
  | .hbm, ⟨31, _⟩ => ⟨S1x2048x1024, .f32⟩
  | _, _ => ⟨S1x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Proof.KI.Protocol.lean ====
/-
  The exchange the kernel runs on a ring of four devices.

  Every device sends only to its right neighbour. It passes round the ring the queries' block (three copies, each of the
  slot the copy before it filled), the partial weighted sums and the partial denominators (three copies each). Before any
  copy leaves, a device signals both neighbours; the signal to the left hands the left neighbour the nine slots it will
  copy into. A receive completes with the slot it filled, at contents named by `Vals`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Regions
public import Idealize.ShloMosaic.Lib.Pipeline.RegionTalk
public import Idealize.ShloMosaic.Lib.Pipeline.Kit
public import Idealize.ShloMosaic.Lib.Rounds
public import Idealize.ShloMosaic.Lib.VecWindow
public import Idealize.ShloMosaic.Lib.Tactic

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-! ## The ring -/

set_option backward.proofsInPublic true in
/-- The right neighbour. -/
def nxt (c : Dev nD) : Dev nD := ⟨(c.val + 1) % 4, Nat.mod_lt _ (by decide)⟩
set_option backward.proofsInPublic true in
/-- The left neighbour. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide
/-- The ring as a permutation of the devices. -/
def ring : Dev nD ≃ Dev nD := ⟨nxt, prv, prv_nxt, nxt_prv⟩

/-- A device word of the program whose value is the left neighbour names it. -/
theorem dev_left (c : Dev nD) (h : k0_dev1 c < nD) : (⟨k0_dev1 c, h⟩ : Dev nD) = prv c := by
  revert c; decide
theorem dev_right (c : Dev nD) (h : k0_dev2 c < nD) : (⟨k0_dev2 c, h⟩ : Dev nD) = nxt c := by
  revert c; decide

/-! ## The resource algebra: the pipeline library's copy and the exchange's -/

abbrev UU : Type := UR sig nD τ × URounds (GSem nD τ sig) Bool
local notation "𝕄" => MT nD τ sig Unit (Elt F) ℕ UU ℕ
abbrev EP : Emb (UR sig nD τ) (MT nD τ sig Unit (Elt F) ℕ UU ℕ) := embL
abbrev ER : Emb (URounds (GSem nD τ sig) Bool) (MT nD τ sig Unit (Elt F) ℕ UU ℕ) := embR

/-! ## Buffers and slots -/

abbrev sXM : Memref sig .tc .vmem S512x1024 .bf16 := Memref.whole cc0_stg0_0
abbrev sWqM : Memref sig .tc .vmem S1024x1024 .bf16 := Memref.whole cc0_stg1_0
abbrev sWoM : Memref sig .tc .vmem S1024x1024 .bf16 := Memref.whole cc0_stg2_0
abbrev kvM : Memref sig .tc .vmem S2x8x2048x128 .bf16 := Memref.whole cc0_stg3_0
abbrev outM : Memref sig .tc .vmem S512x1024 .f32 := Memref.whole cc0_stg4_0
abbrev xagM : Memref sig .tc .vmem S3x512x1024 .bf16 := Memref.whole cc0_scratch0
abbrev paccM : Memref sig .tc .vmem S8x512x128 .f32 := Memref.whole cc0_scratch1
abbrev saccM : Memref sig .tc .vmem S3x8x512x128 .f32 := Memref.whole cc0_scratch2
abbrev raccM : Memref sig .tc .vmem S3x8x512x128 .f32 := Memref.whole cc0_scratch3
abbrev slM : Memref sig .tc .vmem S3x8x512 .f32 := Memref.whole cc0_scratch4
abbrev rlM : Memref sig .tc .vmem S3x8x512 .f32 := Memref.whole cc0_scratch5

theorem inb_xag (k : ℕ) (h : k < 3) : ∀ a, (![k, 0, 0] : Fin 3 → ℕ) a + S1x512x1024.size a ≤ S3x512x1024.size a := by
  obtain rfl | rfl | rfl : k = 0 ∨ k = 1 ∨ k = 2 := by omega
  all_goals decide
theorem inb_acc (k : ℕ) (h : k < 3) : ∀ a, (![k, 0, 0, 0] : Fin 4 → ℕ) a + S1x8x512x128.size a ≤ S3x8x512x128.size a := by
  obtain rfl | rfl | rfl : k = 0 ∨ k = 1 ∨ k = 2 := by omega
  all_goals decide
theorem inb_l (k : ℕ) (h : k < 3) : ∀ a, (![k, 0, 0] : Fin 3 → ℕ) a + S1x8x512.size a ≤ S3x8x512.size a := by
  obtain rfl | rfl | rfl : k = 0 ∨ k = 1 ∨ k = 2 := by omega
  all_goals decide

/-- Slot `k` of the gathered queries, of the sums sent and received, of the denominators sent and received. -/
abbrev xagS (k : ℕ) (h : k < 3 := by decide) : Memref sig .tc .vmem S512x1024 .bf16 :=
  (xagM.slice (Rect.unit (s := S3x512x1024) ![k, 0, 0] S1x512x1024.size (inb_xag k h)) (fun _ => rfl)).squeeze S512x1024 squeezes_S1x512x1024_S512x1024
abbrev accS (m : Memref sig .tc .vmem S3x8x512x128 .f32) (k : ℕ) (h : k < 3 := by decide) : Memref sig .tc .vmem S8x512x128 .f32 :=
  (m.slice (Rect.unit (s := S3x8x512x128) ![k, 0, 0, 0] S1x8x512x128.size (inb_acc k h)) (fun _ => rfl)).squeeze S8x512x128 squeezes_S1x8x512x128_S8x512x128
abbrev lS (m : Memref sig .tc .vmem S3x8x512 .f32) (k : ℕ) (h : k < 3 := by decide) : Memref sig .tc .vmem S8x512 .f32 :=
  (m.slice (Rect.unit (s := S3x8x512) ![k, 0, 0] S1x8x512.size (inb_l k h)) (fun _ => rfl)).squeeze S8x512 squeezes_S1x8x512_S8x512

/-- Memref `M` of device `c` held at share `q`, holding the values `X`. -/
abbrev piece (c : Dev nD) {sp : Space} {s : Shape} {e : EltTy} (M : Memref sig .tc sp s e) (q : PosShare TreeShare) (X : s.Idx → Elt F e) : sProp 𝕄 :=
  M.view.loc (c : Thread nD τ) ↦[M.view.set]{q} M.view.rep X
/-- The same at contents not named. -/
abbrev anyPiece (c : Dev nD) {sp : Space} {s : Shape} {e : EltTy} (M : Memref sig .tc sp s e) : sProp 𝕄 :=
  iprop(∃ f : Buf (Elt F) (M.view.loc (c : Thread nD τ)), M.view.loc (c : Thread nD τ) ↦[M.view.set]{fullShare} f)

/-- The two halves of a whole buffer's share. -/
abbrev halfL : PosShare TreeShare := PosShare.left fullShare
abbrev halfR : PosShare TreeShare := PosShare.right fullShare

/-! ## What the copies carry -/

/-- Each device's block of the queries' input, and the partial sums and denominators it sends in its `k`-th turn. -/
structure Vals (F : FTy → Type) where
  x : Dev nD → S512x1024.Idx → Elt F .bf16
  acc : ℕ → Dev nD → S8x512x128.Idx → Elt F .f32
  l : ℕ → Dev nD → S8x512.Idx → Elt F .f32

/-- What slot `k` of device `c`'s gathered queries holds: the block of the device `k + 1` places to the left. -/
def Vals.xg (v : Vals F) (k : ℕ) (c : Dev nD) : S512x1024.Idx → Elt F .bf16 := v.x (prv^[k + 1] c)

theorem Vals.xg_zero_nxt (v : Vals F) (c : Dev nD) : v.xg 0 (nxt c) = v.x c := by
  show v.x (prv (nxt c)) = _; rw [prv_nxt]
theorem Vals.xg_succ_nxt (v : Vals F) (k : ℕ) (c : Dev nD) : v.xg (k + 1) (nxt c) = v.xg k c := by
  show v.x (prv^[k + 1] (prv (nxt c))) = _; rw [prv_nxt]; rfl

/-! ## Cells -/

abbrev barS : Sem sig := (SemArray.scalar (sig.barrier 0 rfl) : Sems sig S_).sem
abbrev barCell (c : Dev nD) : GSem nD τ sig := ((c : Thread nD τ), .reg barS)
/-- The cell of device `c`'s DMA semaphore `n`: the `k`-th copy of the queries leaves on `5 + k` and lands on `8 + k`, of
    the sums on `11 + k` and `14 + k`, of the denominators on `17 + k` and `20 + k`. -/
abbrev dcell (c : Dev nD) (n : ℕ) (h : n < 23 := by decide) : GSem nD τ sig := ((c : Thread nD τ), .dma (⟨n, h⟩ : Fin 23))

abbrev NX : ℕ := (xagS 0).view.dmaCredit
abbrev NA : ℕ := (accS raccM 0).view.dmaCredit
abbrev NL : ℕ := (lS rlM 0).view.dmaCredit
theorem NX_pos : 0 < NX := View.dmaCredit_pos _ (by decide)
theorem NA_pos : 0 < NA := View.dmaCredit_pos _ (by decide)
theorem NL_pos : 0 < NL := View.dmaCredit_pos _ (by decide)

/-- A DMA semaphore's number. -/
def dmaIx (s : DmaSem sig) : ℕ := Fin.val (n := 23) s

/-! ## The schedule -/

/-- Device `c`'s nine landing slots, at contents not named. -/
def slots (c : Dev nD) : sProp 𝕄 :=
  iprop(anyPiece c (xagS 0) ∗ anyPiece c (xagS 1) ∗ anyPiece c (xagS 2)
    ∗ anyPiece c (accS raccM 0) ∗ anyPiece c (accS raccM 1) ∗ anyPiece c (accS raccM 2)
    ∗ anyPiece c (lS rlM 0) ∗ anyPiece c (lS rlM 1) ∗ anyPiece c (lS rlM 2))
/-- That device `c`'s nine receive cells have reached their first round. -/
def opens (c : Dev nD) : sProp 𝕄 :=
  iprop(reached ER (dcell c 8) 0 ∗ reached ER (dcell c 9) 0 ∗ reached ER (dcell c 10) 0
    ∗ reached ER (dcell c 14) 0 ∗ reached ER (dcell c 15) 0 ∗ reached ER (dcell c 16) 0
    ∗ reached ER (dcell c 20) 0 ∗ reached ER (dcell c 21) 0 ∗ reached ER (dcell c 22) 0)
/-- What a device's signal to its left neighbour hands over: its landing slots, and that its receive cells are open. -/
def barPay (c : Dev nD) : sProp 𝕄 := iprop(slots c ∗ opens c)

/-- What a transfer's completion hands device `c` on its DMA semaphore `n`: a departure the source back, an arrival the slot
    at what landed. -/
def dmaPay (v : Vals F) (c : Dev nD) (n : ℕ) : sProp 𝕄 :=
  match n with
  | 5 => piece c sXM halfL (v.x c)
  | 6 => piece c (xagS 0) halfL (v.xg 0 c)
  | 7 => piece c (xagS 1) halfL (v.xg 1 c)
  | 8 => piece c (xagS 0) fullShare (v.xg 0 c)
  | 9 => piece c (xagS 1) fullShare (v.xg 1 c)
  | 10 => piece c (xagS 2) fullShare (v.xg 2 c)
  | 11 => piece c (accS saccM 0) fullShare (v.acc 0 c)
  | 12 => piece c (accS saccM 1) fullShare (v.acc 1 c)
  | 13 => piece c (accS saccM 2) fullShare (v.acc 2 c)
  | 14 => piece c (accS raccM 0) fullShare (v.acc 0 (prv c))
  | 15 => piece c (accS raccM 1) fullShare (v.acc 1 (prv c))
  | 16 => piece c (accS raccM 2) fullShare (v.acc 2 (prv c))
  | 17 => piece c (lS slM 0) fullShare (v.l 0 c)
  | 18 => piece c (lS slM 1) fullShare (v.l 1 c)
  | 19 => piece c (lS slM 2) fullShare (v.l 2 c)
  | 20 => piece c (lS rlM 0) fullShare (v.l 0 (prv c))
  | 21 => piece c (lS rlM 1) fullShare (v.l 1 (prv c))
  | 22 => piece c (lS rlM 2) fullShare (v.l 2 (prv c))
  | _ => iprop(emp)

/-- The units a transfer on DMA semaphore `n` credits. -/
def dmaAmt (n : ℕ) : ℕ := if n < 11 then NX else if n < 17 then NA else NL

/-- One round on every cell of the exchange: a barrier cell is signalled by both neighbours (`true` the right one, which
    hands its slots; `false` the left one, which hands nothing), a DMA cell credited by one transfer. -/
def talkRd (v : Vals F) : Rounds.Schedule (GSem nD τ sig) Bool 𝕄 where
  duties g r :=
    if r = 0 ∧ g.1.2 = .tc then
      match g.2 with
      | .reg _ => Finset.univ
      | .dma s => if 5 ≤ (dmaIx s) then {false} else ∅
    else ∅
  unitless _ := False
  amount g _ _ := match g.2 with
    | .reg _ => 1
    | .dma s => dmaAmt (dmaIx s)
  payload g _ d := match g.2 with
    | .reg _ => if d then barPay (nxt g.1.1) else iprop(emp)
    | .dma s => dmaPay v g.1.1 (dmaIx s)
  amount_pos g _ _ _ := by
    rcases g with ⟨t, s | s⟩
    · exact Nat.one_pos
    · show 0 < dmaAmt _
      unfold dmaAmt
      split
      · exact NX_pos
      · split
        · exact NA_pos
        · exact NL_pos

instance dmaPay_storable (v : Vals F) (c : Dev nD) (n : ℕ) : BI.Storable (upEmb : UEmb _ 𝕄) (dmaPay v c n) := by
  unfold dmaPay; split <;> infer_instance
set_option synthInstance.maxHeartbeats 400000 in
instance slots_storable (c : Dev nD) : BI.Storable (upEmb : UEmb _ 𝕄) (slots (F := F) c) := by
  unfold slots; infer_instance
set_option synthInstance.maxHeartbeats 400000 in
instance opens_persistent (c : Dev nD) : BI.Persistent (opens (F := F) c) := by
  unfold opens; infer_instance
set_option synthInstance.maxHeartbeats 400000 in
instance opens_storable (c : Dev nD) : BI.Storable (upEmb : UEmb _ 𝕄) (opens (F := F) c) := by
  unfold opens; infer_instance
instance barPay_storable (c : Dev nD) : BI.Storable (upEmb : UEmb _ 𝕄) (barPay (F := F) c) := by
  unfold barPay; infer_instance

instance talkRd_payload_storable (v : Vals F) (g : GSem nD τ sig) (r : ℕ) (d : Bool) :
    BI.Storable (upEmb : UEmb _ 𝕄) ((talkRd v).payload g r d) := by
  rcases g with ⟨t, s | s⟩
  · show BI.Storable upEmb (if d then barPay (nxt t.1) else iprop(emp))
    split <;> infer_instance
  · show BI.Storable upEmb (dmaPay v t.1 _); infer_instance

section Tables

variable (v : Vals F) (c : Dev nD) (n : ℕ) (h : n < 23)

theorem duties_bar : (talkRd v).duties (barCell c) 0 = Finset.univ := by
  dsimp only [talkRd]; exact if_pos ⟨rfl, rfl⟩
theorem duties_dma (h5 : 5 ≤ n) : (talkRd v).duties (dcell c n h) 0 = {false} := by
  dsimp only [talkRd]; rw [if_pos ⟨rfl, rfl⟩]; exact if_pos h5
theorem duties_later (g : GSem nD τ sig) : ∀ r, 1 ≤ r → (talkRd v).duties g r = ∅ := fun _ hr => by
  dsimp only [talkRd]; exact if_neg fun h => by omega
theorem amount_bar (d : Bool) : (talkRd v).amount (barCell c) 0 d = 1 := rfl
theorem amount_dma (d : Bool) : (talkRd v).amount (dcell c n h) 0 d = dmaAmt n := rfl
theorem payload_dma (d : Bool) : (talkRd v).payload (dcell c n h) 0 d = dmaPay v c n := rfl

theorem expect_bar : (talkRd v).expect (barCell c) 0 = 2 := by
  unfold Schedule.expect Schedule.amountOf; rw [duties_bar]; rfl
theorem expect_dma (h5 : 5 ≤ n) : (talkRd v).expect (dcell c n h) 0 = dmaAmt n := by
  unfold Schedule.expect Schedule.amountOf; rw [duties_dma v c n h h5, Finset.sum_singleton, amount_dma]

theorem rest_bar : bigSep ((talkRd v).duties (barCell c) 0 \ ∅) (fun d => (talkRd v).payload (barCell c) 0 d) = iprop(emp ∗ barPay (nxt c)) := by
  rw [Finset.sdiff_empty, duties_bar, show (Finset.univ : Finset Bool) = insert false {true} from by decide, bigSep_insert (by decide), bigSep_singleton]; rfl
theorem rest_dma (h5 : 5 ≤ n) :
    bigSep ((talkRd v).duties (dcell c n h) 0 \ ∅) (fun d => (talkRd v).payload (dcell c n h) 0 d) = dmaPay v c n := by
  rw [Finset.sdiff_empty, duties_dma v c n h h5, bigSep_singleton, payload_dma]

end Tables

/-! ## Levels, and what a device owes at launch -/

def L (g : GSem nD τ sig) : Finset Unit := if g.1.2 = .tc then {()} else ∅
/-- The order of the waits: a device waits only for what lies below everything it still owes. -/
def dmaLv (n : ℕ) : ℕ := match n with
  | 8 => 2 | 9 => 3 | 14 => 4 | 20 => 4 | 10 => 5 | 15 => 5 | 21 => 5 | 16 => 6 | 22 => 6 | _ => 0
def lv (g : GSem nD τ sig) (_ : Unit) : ℕ := match g.2 with
  | .reg _ => 1
  | .dma s => dmaLv (dmaIx s)

theorem L_of_ne (g : GSem nD τ sig) (h : g.1.2 ≠ .tc) : L g = ∅ := if_neg h
theorem L_tc (c : Dev nD) (sm : SemLoc sig) : L ((c : Thread nD τ), sm) = {()} := if_pos rfl

/-- A list of cells with the units owed to each, as a tally. -/
def tally : List (GSem nD τ sig × ℕ) → CellTallies nD τ sig Unit
  | [] => 0
  | p :: ps => tally ps + tallyAt p.1 () p.2

theorem tally_pos {ps : List (GSem nD τ sig × ℕ)} {g : GSem nD τ sig} {u : Unit} (h : 0 < tally ps g u) : ∃ p ∈ ps, p.1 = g := by
  induction ps with
  | nil => exact absurd h (Nat.lt_irrefl 0)
  | cons p ps ih =>
    by_cases hg : p.1 = g
    · exact ⟨p, List.mem_cons_self, hg⟩
    · have e : tally (p :: ps) g u = tally ps g u + tallyAt p.1 () p.2 g u := rfl
      rw [e, tallyAt_apply, if_neg (fun hh => hg hh.1.symm), Nat.add_zero] at h
      obtain ⟨q, hq, rfl⟩ := ih h
      exact ⟨q, List.mem_cons_of_mem _ hq, rfl⟩

/-- A wait below every cell of the list is allowed while the list is owed. -/
theorem mayWait_tally (c : Dev nD) (sm : SemLoc sig) (ps : List (GSem nD τ sig × ℕ))
    (h : ∀ p ∈ ps, p.1.1.2 = .tc ∧ lv ((c : Thread nD τ), sm) () < lv p.1 ()) :
    (levAts L lv : sProp 𝕄) ⊢ MayWait (c : Thread nD τ) sm () (tally ps) :=
  MayOwe.of_cut (L := L) (lev := lv) (lv ((c : Thread nD τ), sm) ()) (fun p hp => by rw [Finset.mem_singleton.mp hp, L_tc]; exact Finset.mem_singleton_self _)
    (fun g u hg => by
      obtain ⟨p, hp, rfl⟩ := tally_pos hg
      unfold L; rw [if_pos (h p hp).1]; exact Finset.mem_singleton_self _)
    (fun p hp => by rw [Finset.mem_singleton.mp hp])
    (fun g u hg => by
      obtain ⟨p, hp, rfl⟩ := tally_pos hg
      exact (h p hp).2)

/-- The copies' landings device `c` owes its right neighbour, in the order it pays them. -/
def copyList (c : Dev nD) : List (GSem nD τ sig × ℕ) :=
  [(dcell (nxt c) 8, NX), (dcell (nxt c) 9, NX), (dcell (nxt c) 14, NA), (dcell (nxt c) 20, NL), (dcell (nxt c) 10, NX),
    (dcell (nxt c) 15, NA), (dcell (nxt c) 21, NL), (dcell (nxt c) 16, NA), (dcell (nxt c) 22, NL)]
/-- The same after the two signals, which come first. -/
def oweList (c : Dev nD) : List (GSem nD τ sig × ℕ) := (barCell (prv c), 1) :: (barCell (nxt c), 1) :: copyList c

/-- The levels of those landings, in the same order. -/
def copyLvs : List ℕ := [2, 3, 4, 4, 5, 5, 5, 6, 6]
theorem copyLvs_eq (c : Dev nD) : (copyList c).map (fun p => lv p.1 ()) = copyLvs := rfl

/-- After its first `k` copies, a device may wait for a cell whose level `n` is below those of the copies to come. -/
theorem mayWait_copies (c : Dev nD) (sm : SemLoc sig) (k n : ℕ) (hn : lv ((c : Thread nD τ), sm) () = n) (h : ∀ l ∈ copyLvs.drop k, n < l) :
    (levAts L lv : sProp 𝕄) ⊢ MayWait (c : Thread nD τ) sm () (tally ((copyList c).drop k)) :=
  mayWait_tally c sm _ fun p hp => ⟨by
    have := List.mem_of_mem_drop hp
    simp only [copyList, List.mem_cons, List.not_mem_nil, or_false] at this
    rcases this with rfl | rfl | rfl | rfl | rfl | rfl | rfl | rfl | rfl <;> rfl, by
    rw [hn]
    apply h
    rw [← copyLvs_eq c, ← List.map_drop]
    exact List.mem_map.mpr ⟨p, hp, rfl⟩⟩

end Cert.KernelIdealProof
-- ==== Proof.KI.Steps.lean ====
/-
  The steps of the exchange as rules for one device: a signal to each neighbour, the wait at the barrier, a copy to the
  right neighbour, and the wait for a copy's departure or arrival.
-/
module

public import proofs.«01_k».proof.Proof.KI.Protocol

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## The cells, and their invariants as one record -/

/-- The number of the `k`-th DMA semaphore of the exchange. -/
abbrev osem (k : Fin 18) : SemLoc sig := .dma (⟨5 + k.val, by omega⟩ : Fin 23)
theorem osem_inj : Function.Injective osem := by decide

def barEmb : Dev nD ↪ GSem nD τ sig := ⟨fun c => barCell c, fun _ _ h => congrArg (fun g : GSem nD τ sig => g.1.1) h⟩
def scEmb : Dev nD × Fin 18 ↪ GSem nD τ sig :=
  ⟨fun ck => ((ck.1 : Thread nD τ), osem ck.2), fun _ _ h =>
    Prod.ext (congrArg (fun g : GSem nD τ sig => g.1.1) h) (osem_inj (congrArg Prod.snd h))⟩

/-- The barrier cells, and the transfers' cells. -/
abbrev barCells : Finset (GSem nD τ sig) := Finset.univ.map barEmb
abbrev scCells : Finset (GSem nD τ sig) := Finset.univ.map scEmb

theorem bar_mem (c : Dev nD) : barCell c ∈ (barCells ∪ scCells : Finset (GSem nD τ sig)) :=
  Finset.mem_union_left _ (Finset.mem_map_of_mem barEmb (Finset.mem_univ c))
theorem dma_mem (c : Dev nD) (n : ℕ) (h : n < 23) (h5 : 5 ≤ n) : dcell c n h ∈ (barCells ∪ scCells : Finset (GSem nD τ sig)) := by
  refine Finset.mem_union_right _ (Finset.mem_map.mpr ⟨(c, (⟨n - 5, by omega⟩ : Fin 18)), Finset.mem_univ _, ?_⟩)
  show (((c : Thread nD τ), osem ⟨n - 5, by omega⟩) : GSem nD τ sig) = _
  have e : 5 + (n - 5) = n := by omega
  simp only [osem, e]

/-- Every cell's invariant, under one map of names; every barrier cell's first round reached. -/
def records (v : Vals F) (κ : GSem nD τ sig → ℕ) : sProp 𝕄 :=
  iprop((bigSep (barCells ∪ scCells) fun g => cellInv ER (talkRd v) (κ g) g) ∗ bigSep barCells fun g => reached ER g 0)

instance records_persistent (v : Vals F) (κ : GSem nD τ sig → ℕ) : BI.Persistent (records v κ) := by unfold records; infer_instance

theorem inv_at (v : Vals F) (κ : GSem nD τ sig → ℕ) {g : GSem nD τ sig} (hg : g ∈ (barCells ∪ scCells : Finset (GSem nD τ sig))) :
    records v κ ⊢ cellInv ER (talkRd v) (κ g) g := by
  unfold records
  have h : (bigSep (barCells ∪ scCells) fun g => (cellInv ER (talkRd v) (κ g) g : sProp 𝕄)) ⊢ cellInv ER (talkRd v) (κ g) g := bigSep_elim hg
  iintro ⟨H, -⟩
  iapply h
  iexact H

theorem reached_at (v : Vals F) (κ : GSem nD τ sig → ℕ) (c : Dev nD) : records v κ ⊢ reached ER (barCell c) 0 := by
  unfold records
  have h : (bigSep barCells fun g => (reached ER g 0 : sProp 𝕄)) ⊢ reached ER (barCell c) 0 :=
    bigSep_elim (Finset.mem_map_of_mem barEmb (Finset.mem_univ c))
  iintro ⟨-, H⟩
  iapply h
  iexact H

/-- What device `c` owes, at whatever it has recorded of its waits. -/
def owing (c : Dev nD) (O : CellTallies nD τ sig Unit) : sProp 𝕄 := iprop(∃ W, owes (c : Thread nD τ) O W)

/-- What device `c` pays a copy with that leaves on its semaphore `a` and lands on its right neighbour's semaphore `b`. -/
def sendTok (c : Dev nD) (a b : ℕ) (ha : a < 23 := by decide) (hb : b < 23 := by decide) : sProp 𝕄 :=
  iprop(dutyTok ER (dcell c a ha) 0 false ∗ reached ER (dcell c a ha) 0 ∗ dutyTok ER (dcell (nxt c) b hb) 0 false)

variable {α : Type} {Kt : α → sProp (MT nD τ sig Unit (Elt F) ℕ UU ℕ)}

/-! ## The barrier -/

/-- Device `c` signals a neighbour `d` and pays its duty `b` at `d`'s barrier cell with that duty's payload. -/
theorem step_signal (v : Vals F) (κ : GSem nD τ sig → ℕ) (c d d' : Dev nD) (b : Bool) (hd : d' = d) (ps : List (GSem nD τ sig × ℕ))
    {k : PUnit → Prog (TpuEff nD τ sig (Elt F) Λ₀ .tc) α} :
    iprop(records v κ ∗ owing c (tally ((barCell d, 1) :: ps)) ∗ dutyTok ER (barCell d) 0 b ∗ (talkRd v).payload (barCell d) 0 b)
      ⊢ iprop((owing c (tally ps) -∗ wp frame (wpE (defs₀ (F := F)) 𝒱₀ c none) Set.univ (k ⟨⟩) Kt)
        -∗ wp frame (wpE (defs₀ (F := F)) 𝒱₀ c none) Set.univ (.op (.semSignal (d' : Thread nD τ) barS 1) k) Kt) := by
  subst hd
  unfold owing
  iintro ⟨#HR, ⟨%W, HO⟩, Ht, Hp⟩ Hk
  iapply (Rounds.wp_signal 𝒱₀ ER (talkRd v) (c : Thread nD τ) none (dst := (d' : Thread nD τ)) (sem := barS) (r := 0) (d := b) (κ := κ (barCell d'))
      (by rw [duties_bar]; exact Finset.mem_univ _) (amount_bar v d' b) () (tally ps) rfl (W := W)) $$ [HO Ht Hp]
  · isplitr; · iapply (inv_at v κ (bar_mem d')); iexact HR
    isplitl [HO]; · iexact HO
    isplitl [Ht]; · iexact Ht
    isplitl [Hp]; · iexact Hp
    iapply (reached_at v κ d'); iexact HR
  iintro HO
  iapply Hk
  iexists W; iexact HO

/-- The wait at device `c`'s own barrier cell for both signals: the right neighbour's landing slots arrive. -/
theorem step_barrier (v : Vals F) (κ : GSem nD τ sig → ℕ) (c : Dev nD)
    {k : PUnit → Prog (TpuEff nD τ sig (Elt F) Λ₀ .tc) α} :
    iprop(records v κ ∗ cred (tallyAt (barCell c) () 2) ∗ owing c (tally (copyList c)) ∗ levAts L lv ∗ atPos ER (barCell c) 0 ∅ 0)
      ⊢ iprop((owing c (tally (copyList c)) ∗ atPos ER (barCell c) 1 ∅ 0 ∗ slots (nxt c) ∗ opens (nxt c)
          -∗ wp frame (wpE (defs₀ (F := F)) 𝒱₀ c none) Set.univ (k ⟨⟩) Kt)
        -∗ wp frame (wpE (defs₀ (F := F)) 𝒱₀ c none) Set.univ (.op (.semWait barS 2) k) Kt) := by
  unfold owing
  iintro ⟨#HR, Hc, ⟨%W, HO⟩, Hl, Hat⟩ Hk
  iapply (Rounds.wp_wait_rest_token 𝒱₀ ER (talkRd v) (c : Thread nD τ) none (κ := κ (barCell c))
      (wpE_semWait_eq 𝒱₀ (c : Thread nD τ) none Set.univ) (Set.mem_univ _) () (O := tally (copyList c)) (W := W) (R := 0) (m := 0) (T := ∅)
      ((Nat.zero_add 2).trans (expect_bar v c).symm)) $$ [Hc HO Hl Hat]
  · isplitr; · iapply (inv_at v κ (bar_mem c)); iexact HR
    isplitl [Hc]; · iexact Hc
    isplitl [HO]; · iexact HO
    isplitl [Hl]
    · iapply (mayWait_copies (F := F) c (.reg barS) 0 1 rfl (by decide))
      iexact Hl
    iexact Hat
  iintro ⟨HO, Hat, -, Hpay⟩
  ihave Hp := (Entails.of_eq (rest_bar v c)) $$ Hpay
  unfold barPay
  icases Hp with ⟨-, Hs, Ho⟩
  iapply Hk
  isplitl [HO]; · iexists _; iexact HO
  isplitl [Hat]; · iexact Hat
  isplitl [Hs] <;> iassumption

/-! ## Copies -/

/-- A copy from device `c` to its right neighbour, of a source holding `X`: the departure's credit comes back. -/
theorem step_send (v : Vals F) (κ : GSem nD τ sig → ℕ) (c c' : Dev nD) {sp sp' : Space} {s : Shape} {e : EltTy}
    {src : Memref sig .tc sp s e} {dst : Memref sig .tc sp' s e} {hsc : dst.view.ref.isScScratch = false} {sS sR : DmaSem sig}
    {hsrc : src.view.WordExact} {hdst : dst.view.WordExact} {hsem : DmaTarget.Typed sp (.dma sR) (.remote (c' : Thread nD τ) dst (.dma sS) hsc)}
    {q : PosShare TreeShare} (X : s.Idx → Elt F e)
    (a b : ℕ) (ha : a < 23) (hb : b < 23) (ha5 : 5 ≤ a) (hb5 : 5 ≤ b) (hc : c' = nxt c) (hS : sS = (⟨a, ha⟩ : Fin 23)) (hR : sR = (⟨b, hb⟩ : Fin 23))
    (N : ℕ) (hN : dst.view.dmaCredit = N) (hNa : dmaAmt a = N) (hNb : dmaAmt b = N) (ps : List (GSem nD τ sig × ℕ))
    (hpay₁ : piece c src q X ⊢ dmaPay v c a) (hpay₂ : piece (nxt c) dst fullShare X ⊢ dmaPay v (nxt c) b)
    {k : PUnit → Prog (TpuEff nD τ sig (Elt F) Λ₀ .tc) α} :
    iprop(records v κ ∗ piece c src q X ∗ anyPiece (nxt c) dst ∗ owing c (tally ((dcell (nxt c) b hb, N) :: ps))
        ∗ sendTok c a b ha hb ∗ reached ER (dcell (nxt c) b hb) 0)
      ⊢ iprop((cred (tallyAt (dcell c a ha) () N) ∗ owing c (tally ps) -∗ wp frame (wpE (defs₀ (F := F)) 𝒱₀ c none) Set.univ (k ⟨⟩) Kt)
        -∗ wp frame (wpE (defs₀ (F := F)) 𝒱₀ c none) Set.univ (.op (.enqueueDma src (.remote (c' : Thread nD τ) dst (.dma sS) hsc) (.dma sR) hsrc hdst hsem) k) Kt) := by
  subst hc hS hR
  unfold owing sendTok
  iintro ⟨#HR, Hs, ⟨%fd, Hd⟩, ⟨%W, HO⟩, ⟨Hta, Hra, Htb⟩, Hrb⟩ Hk
  iapply (Rounds.wp_send_pointsTo 𝒱₀ ER (talkRd v) (c : Thread nD τ) none (c' := (nxt c : Thread nD τ)) (src := src) (dst := dst)
      (sS := .dma (⟨a, ha⟩ : Fin 23)) (sem := .dma (⟨b, hb⟩ : Fin 23)) (q := q) (fs := src.view.rep X) (κ₁ := κ (dcell c a ha)) (κ₂ := κ (dcell (nxt c) b hb)) (r₁ := 0) (r₂ := 0) (d₁ := false) (d₂ := false) (fd := fd)
      (by rw [duties_dma v c a ha ha5]; exact Finset.mem_singleton_self _) (by rw [duties_dma v (nxt c) b hb hb5]; exact Finset.mem_singleton_self _)
      () () N hN hNa hNb (tally ps) rfl (W := W) (hpay₁.trans (Entails.of_eq (payload_dma v c a ha false).symm))
      (BI.Entails.trans (pointsTo_rep_of_read (nxt c : Thread nD τ) dst _ fullShare X (by rw [View.read_write_univ, View.read_rep])) (hpay₂.trans (Entails.of_eq (payload_dma v (nxt c) b hb false).symm)))) $$ [Hs Hd HO Hta Hra Htb Hrb]
  · isplitr; · iapply (inv_at v κ (dma_mem c a ha ha5)); iexact HR
    isplitr; · iapply (inv_at v κ (dma_mem (nxt c) b hb hb5)); iexact HR
    isplitl [Hs]; · iexact Hs
    isplitl [Hd]; · iexact Hd
    isplitl [HO]; · iexact HO
    isplitl [Hta]; · iexact Hta
    isplitl [Hra]; · iexact Hra
    isplitl [Htb]; · iexact Htb
    iexact Hrb
  iintro ⟨Hc, HO⟩
  iapply Hk
  isplitl [Hc]; · iexact Hc
  iexists W; iexact HO

/-- The wait for the transfer on device `c`'s semaphore `n`, while what is owed lies above it. -/
theorem step_wait (v : Vals F) (κ : GSem nD τ sig → ℕ) (c : Dev nD) {sp sp' : Space} {s s' : Shape} {e e' : EltTy}
    {src : Memref sig .tc sp s e} {dst : Memref sig .tc sp' s' e'} {sS : DmaSem sig} {hsrc : src.view.WordExact} {hdst : dst.view.WordExact}
    (n : ℕ) (hn : n < 23) (hn5 : 5 ≤ n) (hS : sS = (⟨n, hn⟩ : Fin 23)) (N : ℕ) (hN : dst.view.dmaCredit = N) (hNn : dmaAmt n = N)
    (O : CellTallies nD τ sig Unit) (hO : (levAts L lv : sProp 𝕄) ⊢ MayWait (c : Thread nD τ) (.dma (⟨n, hn⟩ : Fin 23)) () O)
    {k : PUnit → Prog (TpuEff nD τ sig (Elt F) Λ₀ .tc) α} :
    iprop(records v κ ∗ cred (tallyAt (dcell c n hn) () N) ∗ owing c O ∗ levAts L lv ∗ atPos ER (dcell c n hn) 0 ∅ 0)
      ⊢ iprop((owing c O ∗ atPos ER (dcell c n hn) 1 ∅ 0 ∗ dmaPay v c n -∗ wp frame (wpE (defs₀ (F := F)) 𝒱₀ c none) Set.univ (k ⟨⟩) Kt)
        -∗ wp frame (wpE (defs₀ (F := F)) 𝒱₀ c none) Set.univ (.op (.waitDma2 sS src dst hsrc hdst) k) Kt) := by
  subst hS hN
  unfold owing
  iintro ⟨#HR, Hc, ⟨%W, HO⟩, Hl, Hat⟩ Hk
  iapply (Rounds.wp_wait_rest_token 𝒱₀ ER (talkRd v) (c : Thread nD τ) none (κ := κ (dcell c n hn))
      (wpE_waitDma2_eq 𝒱₀ (c : Thread nD τ) none Set.univ) (Set.mem_univ _) () (O := O) (W := W) (R := 0) (m := 0) (T := ∅)
      ((Nat.zero_add _).trans (hNn.symm.trans (expect_dma v c n hn hn5).symm))) $$ [Hc HO Hl Hat]
  · isplitr; · iapply (inv_at v κ (dma_mem c n hn hn5)); iexact HR
    isplitl [Hc]; · iexact Hc
    isplitl [HO]; · iexact HO
    isplitl [Hl]; · iapply hO; iexact Hl
    iexact Hat
  iintro ⟨HO, Hat, -, Hpay⟩
  ihave Hp := (Entails.of_eq (rest_dma v c n hn hn5)) $$ Hpay
  iapply Hk
  isplitl [HO]; · iexists _; iexact HO
  isplitl [Hat] <;> iassumption

/-- A transfer's cell whose round is over gives its counter back at zero. -/
theorem step_close (v : Vals F) (κ : GSem nD τ sig → ℕ) (g : GSem nD τ sig) (hg : g ∈ (barCells ∪ scCells : Finset (GSem nD τ sig))) :
    iprop(records v κ ∗ atPos ER g 1 ∅ 0) ⊢ (|={Set.univ}=> semVal g 0 : sProp 𝕄) := by
  iintro ⟨#HR, Hat⟩
  iapply (Rounds.cell_close ER (talkRd v) (Set.mem_univ (κ g)) id (duties_later v g))
  isplitr; · iapply (inv_at v κ hg); iexact HR
  iexact Hat

/-- Eighteen semaphores one by one. -/
theorem bigSep_18 (Φ : Fin 18 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12
    ∗ Φ 13 ∗ Φ 14 ∗ Φ 15 ∗ Φ 16 ∗ Φ 17) :=
  bigSep_univ_eq_bigSepL [0, 1, 2, 3, 4, 5, 6, 7, 8, 9, 10, 11, 12, 13, 14, 15, 16, 17] (by decide) (by decide) Φ

/-- All of a device's transfers' cells closed at once. -/
theorem close_all (v : Vals F) (κ : GSem nD τ sig → ℕ) (c : Dev nD) :
    iprop(records v κ ∗ bigSep Finset.univ fun k : Fin 18 => atPos ER ((c : Thread nD τ), osem k) 1 ∅ 0)
      ⊢ (|={Set.univ}=> bigSep Finset.univ fun k : Fin 18 => semVal ((c : Thread nD τ), osem k) 0 : sProp 𝕄) := by
  have h : ∀ k ∈ (Finset.univ : Finset (Fin 18)), iprop(records v κ ∗ atPos ER ((c : Thread nD τ), osem k) 1 ∅ 0)
      ⊢ (|={Set.univ}=> semVal ((c : Thread nD τ), osem k) 0 : sProp 𝕄) := fun k _ =>
    step_close v κ _ (Finset.mem_union_right _ (Finset.mem_map_of_mem scEmb (Finset.mem_univ (c, k))))
  exact (bigSep_with_persistent h).trans (bigSep_fupd _ _)

/-- All of them opened at the kernel's entry, from their counters at zero. -/
theorem open_all (v : Vals F) (κ : GSem nD τ sig → ℕ) (c : Dev nD) :
    iprop(records v κ ∗ (bigSep Finset.univ fun k : Fin 18 => iprop(openTok ER ((c : Thread nD τ), osem k) ∗ semVal ((c : Thread nD τ), osem k) 0)))
      ⊢ (|={Set.univ}=> bigSep Finset.univ fun k : Fin 18 => iprop(atPos ER ((c : Thread nD τ), osem k) 0 ∅ 0 ∗ reached ER ((c : Thread nD τ), osem k) 0) : sProp 𝕄) := by
  have h : ∀ k ∈ (Finset.univ : Finset (Fin 18)), iprop(records v κ ∗ (openTok ER ((c : Thread nD τ), osem k) ∗ semVal ((c : Thread nD τ), osem k) 0))
      ⊢ (|={Set.univ}=> iprop(atPos ER ((c : Thread nD τ), osem k) 0 ∅ 0 ∗ reached ER ((c : Thread nD τ), osem k) 0) : sProp 𝕄) := fun k _ => by
    iintro ⟨#HR, Ho, Hs⟩
    iapply (Rounds.cell_open ER (talkRd v) (g := ((c : Thread nD τ), osem k)) (Set.mem_univ (κ ((c : Thread nD τ), osem k))))
    isplitr; · iapply (inv_at v κ (Finset.mem_union_right _ (Finset.mem_map_of_mem scEmb (Finset.mem_univ (c, k))))); iexact HR
    isplitl [Ho] <;> iassumption
  exact (bigSep_with_persistent h).trans (bigSep_fupd _ _)

end Cert.KernelIdealProof
-- ==== Proof.KI.Slots.lean ====
/-
  The slots of the exchange's buffers: which elements a slot holds, and how a slot is held for the loads and stores that go
  through the whole buffer's memref.
-/
module

public import proofs.«01_k».proof.Proof.KI.Protocol

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

/-! ## The elements of a slot: those whose first coordinate is its number -/

theorem mem_xagR (k : ℕ) (h : k < 3) (y : S3x512x1024.Idx) :
    y ∈ (Rect.unit (s := S3x512x1024) ![k, 0, 0] S1x512x1024.size (inb_xag k h)).set ↔ (y 0).val = k := by
  rw [LoadRect.mem_set]
  constructor
  · intro hy
    obtain ⟨j, hj, e⟩ := hy 0
    have : j < 1 := hj
    have e' : (y 0).val = k + 1 * j := e
    omega
  · intro hy a
    match a with
    | ⟨0, _⟩ => exact ⟨0, Nat.one_pos, by show (y 0).val = k + 1 * 0; omega⟩
    | ⟨1, _⟩ => exact ⟨(y 1).val, (y 1).isLt, by show (y 1).val = 0 + 1 * (y 1).val; omega⟩
    | ⟨2, _⟩ => exact ⟨(y 2).val, (y 2).isLt, by show (y 2).val = 0 + 1 * (y 2).val; omega⟩
theorem mem_accR (k : ℕ) (h : k < 3) (y : S3x8x512x128.Idx) :
    y ∈ (Rect.unit (s := S3x8x512x128) ![k, 0, 0, 0] S1x8x512x128.size (inb_acc k h)).set ↔ (y 0).val = k := by
  rw [LoadRect.mem_set]
  constructor
  · intro hy
    obtain ⟨j, hj, e⟩ := hy 0
    have : j < 1 := hj
    have e' : (y 0).val = k + 1 * j := e
    omega
  · intro hy a
    match a with
    | ⟨0, _⟩ => exact ⟨0, Nat.one_pos, by show (y 0).val = k + 1 * 0; omega⟩
    | ⟨1, _⟩ => exact ⟨(y 1).val, (y 1).isLt, by show (y 1).val = 0 + 1 * (y 1).val; omega⟩
    | ⟨2, _⟩ => exact ⟨(y 2).val, (y 2).isLt, by show (y 2).val = 0 + 1 * (y 2).val; omega⟩
    | ⟨3, _⟩ => exact ⟨(y 3).val, (y 3).isLt, by show (y 3).val = 0 + 1 * (y 3).val; omega⟩
theorem mem_lR (k : ℕ) (h : k < 3) (y : S3x8x512.Idx) :
    y ∈ (Rect.unit (s := S3x8x512) ![k, 0, 0] S1x8x512.size (inb_l k h)).set ↔ (y 0).val = k := by
  rw [LoadRect.mem_set]
  constructor
  · intro hy
    obtain ⟨j, hj, e⟩ := hy 0
    have : j < 1 := hj
    have e' : (y 0).val = k + 1 * j := e
    omega
  · intro hy a
    match a with
    | ⟨0, _⟩ => exact ⟨0, Nat.one_pos, by show (y 0).val = k + 1 * 0; omega⟩
    | ⟨1, _⟩ => exact ⟨(y 1).val, (y 1).isLt, by show (y 1).val = 0 + 1 * (y 1).val; omega⟩
    | ⟨2, _⟩ => exact ⟨(y 2).val, (y 2).isLt, by show (y 2).val = 0 + 1 * (y 2).val; omega⟩

theorem mem_xagS (k : ℕ) (h : k < 3) (y : S3x512x1024.Idx) : y ∈ (xagS k h).view.set ↔ (y 0).val = k := by
  rw [show (xagS k h).view.set = (Rect.unit (s := S3x512x1024) ![k, 0, 0] S1x512x1024.size (inb_xag k h)).set from
    (View.set_reshape _ _).trans (View.set_slice_whole _ _)]
  exact mem_xagR k h y
theorem mem_sacc (k : ℕ) (h : k < 3) (y : S3x8x512x128.Idx) : y ∈ (accS saccM k h).view.set ↔ (y 0).val = k := by
  rw [show (accS saccM k h).view.set = (Rect.unit (s := S3x8x512x128) ![k, 0, 0, 0] S1x8x512x128.size (inb_acc k h)).set from
    (View.set_reshape _ _).trans (View.set_slice_whole _ _)]
  exact mem_accR k h y
theorem mem_racc (k : ℕ) (h : k < 3) (y : S3x8x512x128.Idx) : y ∈ (accS raccM k h).view.set ↔ (y 0).val = k := by
  rw [show (accS raccM k h).view.set = (Rect.unit (s := S3x8x512x128) ![k, 0, 0, 0] S1x8x512x128.size (inb_acc k h)).set from
    (View.set_reshape _ _).trans (View.set_slice_whole _ _)]
  exact mem_accR k h y
theorem mem_sl (k : ℕ) (h : k < 3) (y : S3x8x512.Idx) : y ∈ (lS slM k h).view.set ↔ (y 0).val = k := by
  rw [show (lS slM k h).view.set = (Rect.unit (s := S3x8x512) ![k, 0, 0] S1x8x512.size (inb_l k h)).set from
    (View.set_reshape _ _).trans (View.set_slice_whole _ _)]
  exact mem_lR k h y
theorem mem_rl (k : ℕ) (h : k < 3) (y : S3x8x512.Idx) : y ∈ (lS rlM k h).view.set ↔ (y 0).val = k := by
  rw [show (lS rlM k h).view.set = (Rect.unit (s := S3x8x512) ![k, 0, 0] S1x8x512.size (inb_l k h)).set from
    (View.set_reshape _ _).trans (View.set_slice_whole _ _)]
  exact mem_lR k h y

/-! ## A slot as the buffer less the other two slots -/

/-- Three numbers below three, no two alike: being none of the first two is being the third. -/
theorem only_third (i j k n : ℕ) (hi : i < 3) (hj : j < 3) (hk : k < 3) (hij : i ≠ j) (hik : i ≠ k) (hjk : j ≠ k) (hn : n < 3) :
    n = k ↔ ¬ n = i ∧ ¬ n = j := by omega

section Only

variable (i j k : ℕ) (hi : i < 3) (hj : j < 3) (hk : k < 3) (hij : i ≠ j) (hik : i ≠ k) (hjk : j ≠ k)
include hij hik hjk

theorem xag_only : (xagS k hk).view.set = (Finset.univ \ (xagS i hi).view.set) \ (xagS j hj).view.set := by
  ext y
  simp only [Finset.mem_sdiff, Finset.mem_univ, true_and]
  rw [mem_xagS k hk y, mem_xagS i hi y, mem_xagS j hj y]
  exact only_third i j k _ hi hj hk hij hik hjk (y 0).isLt
theorem racc_only : (accS raccM k hk).view.set = (Finset.univ \ (accS raccM i hi).view.set) \ (accS raccM j hj).view.set := by
  ext y
  simp only [Finset.mem_sdiff, Finset.mem_univ, true_and]
  rw [mem_racc k hk y, mem_racc i hi y, mem_racc j hj y]
  exact only_third i j k _ hi hj hk hij hik hjk (y 0).isLt
theorem rl_only : (lS rlM k hk).view.set = (Finset.univ \ (lS rlM i hi).view.set) \ (lS rlM j hj).view.set := by
  ext y
  simp only [Finset.mem_sdiff, Finset.mem_univ, true_and]
  rw [mem_rl k hk y, mem_rl i hi y, mem_rl j hj y]
  exact only_third i j k _ hi hj hk hij hik hjk (y 0).isLt

variable (c : Dev nD) (q : PosShare TreeShare)

/-- Slot `k` of the gathered queries, held as its buffer less the other two slots. -/
theorem xag_piece (X : S512x1024.Idx → Elt F .bf16) :
    (piece c (xagS k hk) q X : sProp 𝕄)
      = (xagM.view.loc (c : Thread nD τ) ↦[(Finset.univ \ (xagS i hi).view.set) \ (xagS j hj).view.set]{q} (xagS k hk).view.rep X) :=
  congrArg (fun S => (xagM.view.loc (c : Thread nD τ) ↦[S]{q} (xagS k hk).view.rep X : sProp 𝕄)) (xag_only i j k hi hj hk hij hik hjk)
theorem racc_piece (X : S8x512x128.Idx → Elt F .f32) :
    (piece c (accS raccM k hk) q X : sProp 𝕄)
      = (raccM.view.loc (c : Thread nD τ) ↦[(Finset.univ \ (accS raccM i hi).view.set) \ (accS raccM j hj).view.set]{q} (accS raccM k hk).view.rep X) :=
  congrArg (fun S => (raccM.view.loc (c : Thread nD τ) ↦[S]{q} (accS raccM k hk).view.rep X : sProp 𝕄)) (racc_only i j k hi hj hk hij hik hjk)
theorem rl_piece (X : S8x512.Idx → Elt F .f32) :
    (piece c (lS rlM k hk) q X : sProp 𝕄)
      = (rlM.view.loc (c : Thread nD τ) ↦[(Finset.univ \ (lS rlM i hi).view.set) \ (lS rlM j hj).view.set]{q} (lS rlM k hk).view.rep X) :=
  congrArg (fun S => (rlM.view.loc (c : Thread nD τ) ↦[S]{q} (lS rlM k hk).view.rep X : sProp 𝕄)) (rl_only i j k hi hj hk hij hik hjk)

end Only

/-! ## Shares -/

/-- A piece held outright is its two halves. -/
theorem piece_halves (c : Dev nD) {sp : Space} {s : Shape} {e : EltTy} (M : Memref sig .tc sp s e) (X : s.Idx → Elt F e) :
    (piece c M fullShare X : sProp 𝕄) ⊣⊢ iprop(piece c M halfL X ∗ piece c M halfR X) :=
  pointsTo_share (PosShare.mem_left_op_right fullShare)

/-- What lands in slot `k` of the gathered queries: half to send on, half to load from. -/
theorem arrive_xag (c : Dev nD) (i j k : ℕ) (hi : i < 3) (hj : j < 3) (hk : k < 3) (hij : i ≠ j) (hik : i ≠ k) (hjk : j ≠ k)
    (X : S512x1024.Idx → Elt F .bf16) :
    (piece c (xagS k hk) fullShare X : sProp 𝕄) ⊢ iprop(piece c (xagS k hk) halfL X
      ∗ (xagM.view.loc (c : Thread nD τ) ↦[(Finset.univ \ (xagS i hi).view.set) \ (xagS j hj).view.set]{halfR} (xagS k hk).view.rep X)) := by
  rw [← xag_piece i j k hi hj hk hij hik hjk c halfR X]
  exact (piece_halves c (xagS k hk) X).1

/-- A piece with its contents forgotten. -/
theorem piece_any (c : Dev nD) {sp : Space} {s : Shape} {e : EltTy} (M : Memref sig .tc sp s e) (X : s.Idx → Elt F e) :
    (piece c M fullShare X : sProp 𝕄) ⊢ anyPiece c M := by
  iintro H
  iexists _
  iexact H

/-! ## A finished slot leaves its buffer -/

theorem lt0 : 0 < 3 := by decide
theorem lt1 : 1 < 3 := by decide
theorem lt2 : 2 < 3 := by decide

section Finish

variable (c : Dev nD)

/-- A finished slot `k` of the sums to send leaves what is held of the buffer, at its values. -/
theorem sacc_split (k : ℕ) (hk : k < 3) (I : Finset saccM.view.ty.Idx) (hI : (accS saccM k hk).view.set ⊆ I) (g : Buf (Elt F) (saccM.view.loc (c : Thread nD τ)))
    (X : S8x512x128.Idx → Elt F .f32) (h : (accS saccM k hk).view.read (Elt F) g = X) :
    (saccM.view.loc (c : Thread nD τ) ↦[I]{fullShare} g : sProp 𝕄)
      ⊢ iprop(piece c (accS saccM k hk) fullShare X ∗ ∃ f : Buf (Elt F) (saccM.view.loc (c : Thread nD τ)), saccM.view.loc (c : Thread nD τ) ↦[I \ (accS saccM k hk).view.set]{fullShare} f) := by
  refine (pointsTo_split_subset hI).1.trans ?_
  iintro ⟨Ha, Hb⟩
  isplitl [Ha]
  · iapply (pointsTo_rep_of_read (c : Thread nD τ) (accS saccM k hk) g fullShare X h)
    iexact Ha
  · iexists g
    iexact Hb
/-- No element lies in two slots. -/
theorem sacc_apart (i k : ℕ) (hi : i < 3) (hk : k < 3) (h : i ≠ k) (y : S3x8x512x128.Idx) (hy : y ∈ (accS saccM k hk).view.set) : y ∉ (accS saccM i hi).view.set :=
  fun hy' => h (((mem_sacc i hi y).mp hy').symm.trans ((mem_sacc k hk y).mp hy))
theorem sacc_sub0 : (accS saccM 0 lt0).view.set ⊆ (Finset.univ : Finset S3x8x512x128.Idx) := Finset.subset_univ _
theorem sacc_sub1 : (accS saccM 1 lt1).view.set ⊆ (Finset.univ : Finset S3x8x512x128.Idx) \ (accS saccM 0 lt0).view.set :=
  fun (y : S3x8x512x128.Idx) hy => Finset.mem_sdiff.mpr ⟨Finset.mem_univ y, sacc_apart 0 1 lt0 lt1 (by decide) y hy⟩
theorem sacc_sub2 : (accS saccM 2 lt2).view.set ⊆ ((Finset.univ : Finset S3x8x512x128.Idx) \ (accS saccM 0 lt0).view.set) \ (accS saccM 1 lt1).view.set :=
  fun (y : S3x8x512x128.Idx) hy => Finset.mem_sdiff.mpr ⟨Finset.mem_sdiff.mpr ⟨Finset.mem_univ y, sacc_apart 0 2 lt0 lt2 (by decide) y hy⟩, sacc_apart 1 2 lt1 lt2 (by decide) y hy⟩

/-- A finished slot `k` of the denominators to send leaves what is held of the buffer, at its values. -/
theorem sl_split (k : ℕ) (hk : k < 3) (I : Finset slM.view.ty.Idx) (hI : (lS slM k hk).view.set ⊆ I) (g : Buf (Elt F) (slM.view.loc (c : Thread nD τ)))
    (X : S8x512.Idx → Elt F .f32) (h : (lS slM k hk).view.read (Elt F) g = X) :
    (slM.view.loc (c : Thread nD τ) ↦[I]{fullShare} g : sProp 𝕄)
      ⊢ iprop(piece c (lS slM k hk) fullShare X ∗ ∃ f : Buf (Elt F) (slM.view.loc (c : Thread nD τ)), slM.view.loc (c : Thread nD τ) ↦[I \ (lS slM k hk).view.set]{fullShare} f) := by
  refine (pointsTo_split_subset hI).1.trans ?_
  iintro ⟨Ha, Hb⟩
  isplitl [Ha]
  · iapply (pointsTo_rep_of_read (c : Thread nD τ) (lS slM k hk) g fullShare X h)
    iexact Ha
  · iexists g
    iexact Hb
/-- No element lies in two slots. -/
theorem sl_apart (i k : ℕ) (hi : i < 3) (hk : k < 3) (h : i ≠ k) (y : S3x8x512.Idx) (hy : y ∈ (lS slM k hk).view.set) : y ∉ (lS slM i hi).view.set :=
  fun hy' => h (((mem_sl i hi y).mp hy').symm.trans ((mem_sl k hk y).mp hy))
theorem sl_sub0 : (lS slM 0 lt0).view.set ⊆ (Finset.univ : Finset S3x8x512.Idx) := Finset.subset_univ _
theorem sl_sub1 : (lS slM 1 lt1).view.set ⊆ (Finset.univ : Finset S3x8x512.Idx) \ (lS slM 0 lt0).view.set :=
  fun (y : S3x8x512.Idx) hy => Finset.mem_sdiff.mpr ⟨Finset.mem_univ y, sl_apart 0 1 lt0 lt1 (by decide) y hy⟩
theorem sl_sub2 : (lS slM 2 lt2).view.set ⊆ ((Finset.univ : Finset S3x8x512.Idx) \ (lS slM 0 lt0).view.set) \ (lS slM 1 lt1).view.set :=
  fun (y : S3x8x512.Idx) hy => Finset.mem_sdiff.mpr ⟨Finset.mem_sdiff.mpr ⟨Finset.mem_univ y, sl_apart 0 2 lt0 lt2 (by decide) y hy⟩, sl_apart 1 2 lt1 lt2 (by decide) y hy⟩

/-- The same, the slot's contents named by what they are. -/
theorem sacc_take (k : ℕ) (hk : k < 3) (I : Finset saccM.view.ty.Idx) (hI : (accS saccM k hk).view.set ⊆ I) (g : Buf (Elt F) (saccM.view.loc (c : Thread nD τ))) :
    (saccM.view.loc (c : Thread nD τ) ↦[I]{fullShare} g : sProp 𝕄)
      ⊢ iprop(∃ X, ⌜(accS saccM k hk).view.read (Elt F) g = X⌝ ∗ piece c (accS saccM k hk) fullShare X
        ∗ ∃ f : Buf (Elt F) (saccM.view.loc (c : Thread nD τ)), saccM.view.loc (c : Thread nD τ) ↦[I \ (accS saccM k hk).view.set]{fullShare} f) := by
  iintro H
  iexists (accS saccM k hk).view.read (Elt F) g
  isplitr; · ipureintro; rfl
  iapply (sacc_split c k hk I hI g _ rfl)
  iexact H
theorem sl_take (k : ℕ) (hk : k < 3) (I : Finset slM.view.ty.Idx) (hI : (lS slM k hk).view.set ⊆ I) (g : Buf (Elt F) (slM.view.loc (c : Thread nD τ))) :
    (slM.view.loc (c : Thread nD τ) ↦[I]{fullShare} g : sProp 𝕄)
      ⊢ iprop(∃ X, ⌜(lS slM k hk).view.read (Elt F) g = X⌝ ∗ piece c (lS slM k hk) fullShare X
        ∗ ∃ f : Buf (Elt F) (slM.view.loc (c : Thread nD τ)), slM.view.loc (c : Thread nD τ) ↦[I \ (lS slM k hk).view.set]{fullShare} f) := by
  iintro H
  iexists (lS slM k hk).view.read (Elt F) g
  isplitr; · ipureintro; rfl
  iapply (sl_split c k hk I hI g _ rfl)
  iexact H

end Finish

/-! ## A buffer and its slots -/

section Whole

variable {ℓ : Loc nD τ sig} (S₀ S₁ S₂ : Finset (Idx ℓ)) (h₁ : S₁ ⊆ Finset.univ \ S₀) (h₂ : S₂ ⊆ (Finset.univ \ S₀) \ S₁)
include h₁

/-- A buffer held whole falls into two slots and the rest. -/
theorem cut (f : Buf (Elt F) ℓ) :
    (ℓ ↦{fullShare} f : sProp 𝕄) ⊢ iprop((ℓ ↦[S₀]{fullShare} f) ∗ (ℓ ↦[S₁]{fullShare} f) ∗ ℓ ↦[(Finset.univ \ S₀) \ S₁]{fullShare} f) :=
  (pointsTo_split_subset (Finset.subset_univ S₀)).1.trans (BIClass.sep_mono (BI.Entails.refl _) (pointsTo_split_subset h₁).1)
/-- Two slots and the rest make the buffer, -/
theorem uncut (g₀ g₁ f : Buf (Elt F) ℓ) :
    iprop((ℓ ↦[S₀]{fullShare} g₀) ∗ (ℓ ↦[S₁]{fullShare} g₁) ∗ ℓ ↦[(Finset.univ \ S₀) \ S₁]{fullShare} f) ⊢ (iprop(∃ g, ℓ ↦{fullShare} g) : sProp 𝕄) := by
  refine (BIClass.sep_mono (BI.Entails.refl _) (pointsTo_join_subset h₁)).trans ((pointsTo_join_subset (Finset.subset_univ S₀)).trans ?_)
  iintro H
  iexists _
  iexact H
include h₂
/-- and so do three slots and the rest. -/
theorem uncut3 (g₀ g₁ g₂ f : Buf (Elt F) ℓ) :
    iprop((ℓ ↦[S₀]{fullShare} g₀) ∗ (ℓ ↦[S₁]{fullShare} g₁) ∗ (ℓ ↦[S₂]{fullShare} g₂) ∗ ℓ ↦[((Finset.univ \ S₀) \ S₁) \ S₂]{fullShare} f)
      ⊢ (iprop(∃ g, ℓ ↦{fullShare} g) : sProp 𝕄) :=
  (BIClass.sep_mono (BI.Entails.refl _) (BIClass.sep_mono (BI.Entails.refl _) (pointsTo_join_subset h₂))).trans (uncut S₀ S₁ h₁ g₀ g₁ _)

end Whole

section Cuts

variable (c : Dev nD)

theorem xag_sub : (xagS 1 lt1).view.set ⊆ (Finset.univ : Finset S3x512x1024.Idx) \ (xagS 0 lt0).view.set := fun (y : S3x512x1024.Idx) hy =>
  Finset.mem_sdiff.mpr ⟨Finset.mem_univ y, fun hy' => absurd (((mem_xagS 0 lt0 y).mp hy').symm.trans ((mem_xagS 1 lt1 y).mp hy)) (by decide)⟩
theorem racc_sub : (accS raccM 1 lt1).view.set ⊆ (Finset.univ : Finset S3x8x512x128.Idx) \ (accS raccM 0 lt0).view.set := fun (y : S3x8x512x128.Idx) hy =>
  Finset.mem_sdiff.mpr ⟨Finset.mem_univ y, fun hy' => absurd (((mem_racc 0 lt0 y).mp hy').symm.trans ((mem_racc 1 lt1 y).mp hy)) (by decide)⟩
theorem rl_sub : (lS rlM 1 lt1).view.set ⊆ (Finset.univ : Finset S3x8x512.Idx) \ (lS rlM 0 lt0).view.set := fun (y : S3x8x512.Idx) hy =>
  Finset.mem_sdiff.mpr ⟨Finset.mem_univ y, fun hy' => absurd (((mem_rl 0 lt0 y).mp hy').symm.trans ((mem_rl 1 lt1 y).mp hy)) (by decide)⟩

/-- The landing buffers as their slots. -/
theorem xag_cut (f : Buf (Elt F) (xagM.view.loc (c : Thread nD τ))) :
    (xagM.view.loc (c : Thread nD τ) ↦{fullShare} f : sProp 𝕄) ⊢ iprop(anyPiece c (xagS 0) ∗ anyPiece c (xagS 1) ∗ anyPiece c (xagS 2)) := by
  refine (cut _ _ xag_sub f).trans ?_
  rw [← xag_only 0 1 2 lt0 lt1 lt2 (by decide) (by decide) (by decide)]
  iintro ⟨Ha, Hb, Hd⟩
  isplitl [Ha]; · iexists f; iexact Ha
  isplitl [Hb]; · iexists f; iexact Hb
  iexists f; iexact Hd
theorem racc_cut (f : Buf (Elt F) (raccM.view.loc (c : Thread nD τ))) :
    (raccM.view.loc (c : Thread nD τ) ↦{fullShare} f : sProp 𝕄) ⊢ iprop(anyPiece c (accS raccM 0) ∗ anyPiece c (accS raccM 1) ∗ anyPiece c (accS raccM 2)) := by
  refine (cut _ _ racc_sub f).trans ?_
  rw [← racc_only 0 1 2 lt0 lt1 lt2 (by decide) (by decide) (by decide)]
  iintro ⟨Ha, Hb, Hd⟩
  isplitl [Ha]; · iexists f; iexact Ha
  isplitl [Hb]; · iexists f; iexact Hb
  iexists f; iexact Hd
theorem rl_cut (f : Buf (Elt F) (rlM.view.loc (c : Thread nD τ))) :
    (rlM.view.loc (c : Thread nD τ) ↦{fullShare} f : sProp 𝕄) ⊢ iprop(anyPiece c (lS rlM 0) ∗ anyPiece c (lS rlM 1) ∗ anyPiece c (lS rlM 2)) := by
  refine (cut _ _ rl_sub f).trans ?_
  rw [← rl_only 0 1 2 lt0 lt1 lt2 (by decide) (by decide) (by decide)]
  iintro ⟨Ha, Hb, Hd⟩
  isplitl [Ha]; · iexists f; iexact Ha
  isplitl [Hb]; · iexists f; iexact Hb
  iexists f; iexact Hd

/-- The gathered queries' buffer back from its slots, the first two of which are in halves. -/
theorem xag_whole (X₀ X₁ X₂ : S512x1024.Idx → Elt F .bf16) :
    iprop((piece c (xagS 0 lt0) halfL X₀ ∗ piece c (xagS 0 lt0) halfR X₀) ∗ (piece c (xagS 1 lt1) halfL X₁ ∗ piece c (xagS 1 lt1) halfR X₁) ∗ piece c (xagS 2 lt2) fullShare X₂)
      ⊢ (iprop(∃ g, xagM.view.loc (c : Thread nD τ) ↦{fullShare} g) : sProp 𝕄) := by
  refine (BIClass.sep_mono (piece_halves c (xagS 0 lt0) X₀).2 (BIClass.sep_mono (piece_halves c (xagS 1 lt1) X₁).2
    (Entails.of_eq (xag_piece 0 1 2 lt0 lt1 lt2 (by decide) (by decide) (by decide) c fullShare X₂)))).trans ?_
  exact uncut _ _ xag_sub _ _ _

end Cuts

end Cert.KernelIdealProof
-- ==== Proof.KI.Values.lean ====
/-
  The values one device computes: a head's weighted sums and denominators over the device's keys and values, the whole partial
  result for one block of queries, and the result after the last exchange. Each is a plain function of the buffers' contents.
-/
module

public import proofs.«01_k».proof.Proof.KI.Slots
public import Idealize.ShloMosaic.Lib.Pipeline.ReadBack
public import Idealize.ShloMosaic.Lib.Pipeline.FrameBody
public import Idealize.ShloMosaic.Lib.Writes
public import Idealize.ShloMosaic.Lib.ValueLayout
public import Idealize.ShloMosaic.Lib.ValueLayoutCasts

@[expose] public section

noncomputable section

namespace Cert.KernelIdealProof

open Cert.KernelIdeal Cert.KernelIdeal.Gen
open Idealize.ShloMosaic Idealize.ShloMosaic.ValueIdx
open Idealize.ShloMosaic.TcCoe

variable {F : FTy → Type} [FloatOps F]

/-! ## One head over one tile of keys -/

/-- The scaled queries of a block. -/
def qOf (X : S512x1024.Idx → Elt F .bf16) (wq : S1024x1024.Idx → Elt F .bf16) : FVec F S512x1024 .bf16 := k0_pay1 X wq

theorem slices_q (h : Fin 8) : S512x1024.Slices ![0, 128 * h.val] S512x128 := by revert h; decide
theorem inb_kv (i : Fin 2) (h : Fin 8) (t : Fin 2) :
    ∀ a, (![i.val, h.val, 1024 * t.val, 0] : Fin 4 → ℕ) a + S1x1x1024x128.size a ≤ S2x8x2048x128.size a := by
  revert i h t; decide
theorem inb_wo (h : Fin 8) : ∀ a, (![128 * h.val, 0] : Fin 2 → ℕ) a + S128x1024.size a ≤ S1024x1024.size a := by revert h; decide

/-- Head `h`'s columns of the queries. -/
def qHead (q : FVec F S512x1024 .bf16) (h : Fin 8) : FVec F S512x128 .bf16 := extractStridedSlice S512x128 ![0, 128 * h.val] q (slices_q h)
/-- Head `h`'s tile `t` of the keys (`i = 0`) or the values (`i = 1`). -/
def kvTile (kv : S2x8x2048x128.Idx → Elt F .bf16) (i : Fin 2) (h : Fin 8) (t : Fin 2) : FVec F S1024x128 .bf16 :=
  shapeCast S1024x128 (fun y : S1x1x1024x128.Idx => kv ((Rect.unit (s := S2x8x2048x128) ![i.val, h.val, 1024 * t.val, 0] S1x1x1024x128.size (inb_kv i h t)).toLoadRect.idx y))
    shapeCasts_S1x1x1024x128_S1024x128

/-- The exponentials of a tile's scores. -/
def pTile (q : FVec F S512x1024 .bf16) (kv : S2x8x2048x128.Idx → Elt F .bf16) (h : Fin 8) (t : Fin 2) : FVec F S512x1024 .f32 :=
  exp (matmul dot_S512x128_S1024x128_S512x1024_1_1_0_0_n_n none (qHead q h) (kvTile kv 0 h t) (constant S512x1024 .f32 0x00000000#32))
/-- Their products with the tile's values, and their sums. -/
def accTile (q : FVec F S512x1024 .bf16) (kv : S2x8x2048x128.Idx → Elt F .bf16) (h : Fin 8) (t : Fin 2) : FVec F S512x128 .f32 :=
  matmul dot_S512x1024_S1024x128_S512x128_1_0_0_1_n_n none (truncf .bf16 (pTile q kv h t) bitsLt_bf16_f32) (kvTile kv 1 h t) (constant S512x128 .f32 0x00000000#32)
def lTile (q : FVec F S512x1024 .bf16) (kv : S2x8x2048x128.Idx → Elt F .bf16) (h : Fin 8) (t : Fin 2) : FVec F S512 .f32 :=
  multiReduction .add [1] S512 (pTile q kv h t) 0x00000000#32 reduces_S512x1024_S512 (.inl rfl) rfl

/-- One head over both tiles. -/
def accH (q : FVec F S512x1024 .bf16) (kv : S2x8x2048x128.Idx → Elt F .bf16) (h : Fin 8) : FVec F S512x128 .f32 :=
  addf (accTile q kv h 0) (accTile q kv h 1)
def lH (q : FVec F S512x1024 .bf16) (kv : S2x8x2048x128.Idx → Elt F .bf16) (h : Fin 8) : FVec F S512 .f32 :=
  addf (lTile q kv h 0) (lTile q kv h 1)

/-- Heads side by side. -/
def stack (A : Fin 8 → FVec F S512x128 .f32) : S8x512x128.Idx → Elt F .f32 := fun y => A (y 0) (ix2 (y 1) (y 2))
def stackL (l : Fin 8 → FVec F S512 .f32) : S8x512.Idx → Elt F .f32 := fun y => l (y 0) (ix1 (y 1))
/-- Head `h` of what a device received. -/
def headOf (R : S8x512x128.Idx → Elt F .f32) (h : Fin 8) : FVec F S512x128 .f32 := fun y => R (ix3 h (y 0) (y 1))
def headOfL (R : S8x512.Idx → Elt F .f32) (h : Fin 8) : FVec F S512 .f32 := fun y => R (ix2 h (y 0))

/-- What a device sends first, and after it has received. -/
def sendAcc (q : FVec F S512x1024 .bf16) (kv : S2x8x2048x128.Idx → Elt F .bf16) : S8x512x128.Idx → Elt F .f32 := stack (accH q kv)
def sendL (q : FVec F S512x1024 .bf16) (kv : S2x8x2048x128.Idx → Elt F .bf16) : S8x512.Idx → Elt F .f32 := stackL (lH q kv)
def passAcc (q : FVec F S512x1024 .bf16) (kv : S2x8x2048x128.Idx → Elt F .bf16) (R : S8x512x128.Idx → Elt F .f32) : S8x512x128.Idx → Elt F .f32 :=
  stack fun h => addf (accH q kv h) (headOf R h)
def passL (q : FVec F S512x1024 .bf16) (kv : S2x8x2048x128.Idx → Elt F .bf16) (R : S8x512.Idx → Elt F .f32) : S8x512.Idx → Elt F .f32 :=
  stackL fun h => addf (lH q kv h) (headOfL R h)

/-! ## The result -/

/-- Head `h`'s rows of the output projection. -/
def woHead (wo : S1024x1024.Idx → Elt F .bf16) (h : Fin 8) : FVec F S128x1024 .bf16 :=
  shapeCast S128x1024 (fun y : S128x1024.Idx => wo ((Rect.unit (s := S1024x1024) ![128 * h.val, 0] S128x1024.size (inb_wo h)).toLoadRect.idx y))
    shapeCasts_S128x1024_S128x1024
/-- Head `h`'s share of the result, from its weighted sums and denominators over all keys. -/
def outHead (A : FVec F S512x128 .f32) (l : FVec F S512 .f32) (w : FVec F S128x1024 .bf16) : FVec F S512x1024 .f32 :=
  matmul dot_S512x128_S128x1024_S512x1024_1_0_0_1_n_n none
    (truncf .bf16 (divf A (broadcastTo S512x128 (shapeCast S512x1 l shapeCasts_S512_S512x1) broadcasts_S512x1_S512x128)) bitsLt_bf16_f32) w
    (constant S512x1024 .f32 0x00000000#32)
/-- A device's block of the result, from its own queries and what it received last. -/
def outOf (q : FVec F S512x1024 .bf16) (kv : S2x8x2048x128.Idx → Elt F .bf16) (wo : S1024x1024.Idx → Elt F .bf16)
    (R : S8x512x128.Idx → Elt F .f32) (Rl : S8x512.Idx → Elt F .f32) : FVec F S512x1024 .f32 :=
  let o (h : Fin 8) : FVec F S512x1024 .f32 := outHead (addf (accH q kv h) (headOf R h)) (addf (lH q kv h) (headOfL Rl h)) (woHead wo h)
  addf (addf (addf (addf (addf (addf (addf (o 0) (o 1)) (o 2)) (o 3)) (o 4)) (o 5)) (o 6)) (o 7)

/-! ## Reading the buffers -/

/-- A load of one head of the sums received, from its slot. -/
theorem racc_load (k : ℕ) (hk : k < 3) (h : Fin 8) (inb) (R : S8x512x128.Idx → Elt F .f32) :
    shapeCast S512x128 (View.readAt (Elt F) raccM.view (Rect.unit (s := S3x8x512x128) ![k, h.val, 0, 0] S1x1x512x128.size inb).toLoadRect ((accS raccM k hk).view.rep R))
        shapeCasts_S1x1x512x128_S512x128 = headOf R h := by
  have e : View.readAt (Elt F) raccM.view (Rect.unit (s := S3x8x512x128) ![k, 0, 0, 0] S1x8x512x128.size (inb_acc k hk)).toLoadRect ((accS raccM k hk).view.rep R)
      = shapeCast S1x8x512x128 R (by decide) := by
    have e₁ : shapeCast (s := S1x8x512x128) S8x512x128 (View.readAt (Elt F) raccM.view (Rect.unit (s := S3x8x512x128) ![k, 0, 0, 0] S1x8x512x128.size (inb_acc k hk)).toLoadRect ((accS raccM k hk).view.rep R)) (by decide)
        = R := View.read_rep (accS raccM k hk).view R
    exact (shapeCast_shapeCast (s := S1x8x512x128) _ (by decide) (by decide)).symm.trans (congrArg (fun x => shapeCast S1x8x512x128 x (by decide)) e₁)
  funext y
  obtain ⟨i, j, rfl⟩ : ∃ (i : Fin 512) (j : Fin 128), y = ix2 i j := ⟨y 0, y 1, eq_ix2 y⟩
  rw [shapeCast_apply _ _ (ix2 i j) (ix4 (0 : Fin 1) (0 : Fin 1) i j) (by
    rw [Shape.rowMajor_val_four, Shape.rowMajor_val_two]
    show ((0 * 1 + 0) * 512 + i.val) * 128 + j.val = i.val * 128 + j.val
    omega)]
  have e₂ := congrFun e (ix4 (0 : Fin 1) h i j)
  rw [shapeCast_abc_1abc_apply] at e₂
  show _ = R (ix3 h i j)
  rw [← e₂, View.readAt_apply, View.readAt_apply]
  congr 1
  funext a
  match a with
  | ⟨0, _⟩ => rfl
  | ⟨1, _⟩ => exact Fin.ext (by show h.val + 1 * 0 = 0 + 1 * h.val; omega)
  | ⟨2, _⟩ => rfl
  | ⟨3, _⟩ => rfl

theorem rl_load (k : ℕ) (hk : k < 3) (h : Fin 8) (inb) (R : S8x512.Idx → Elt F .f32) :
    shapeCast S512 (View.readAt (Elt F) rlM.view (Rect.unit (s := S3x8x512) ![k, h.val, 0] S1x1x512.size inb).toLoadRect ((lS rlM k hk).view.rep R))
        shapeCasts_S1x1x512_S512 = headOfL R h := by
  have e : View.readAt (Elt F) rlM.view (Rect.unit (s := S3x8x512) ![k, 0, 0] S1x8x512.size (inb_l k hk)).toLoadRect ((lS rlM k hk).view.rep R)
      = shapeCast S1x8x512 R (by decide) := by
    have e₁ : shapeCast (s := S1x8x512) S8x512 (View.readAt (Elt F) rlM.view (Rect.unit (s := S3x8x512) ![k, 0, 0] S1x8x512.size (inb_l k hk)).toLoadRect ((lS rlM k hk).view.rep R)) (by decide)
        = R := View.read_rep (lS rlM k hk).view R
    exact (shapeCast_shapeCast (s := S1x8x512) _ (by decide) (by decide)).symm.trans (congrArg (fun x => shapeCast S1x8x512 x (by decide)) e₁)
  funext y
  obtain ⟨i, rfl⟩ : ∃ (i : Fin 512), y = ix1 i := ⟨y 0, eq_ix1 y⟩
  rw [shapeCast_apply _ _ (ix1 i) (ix3 (0 : Fin 1) (0 : Fin 1) i) (by
    rw [Shape.rowMajor_val_three, Shape.rowMajor_val_one]
    show (0 * 1 + 0) * 512 + i.val = i.val
    omega)]
  have e₂ := congrFun e (ix3 (0 : Fin 1) h i)
  rw [shapeCast_ab_1ab_apply] at e₂
  show _ = R (ix2 h i)
  rw [← e₂, View.readAt_apply, View.readAt_apply]
  congr 1
  funext a
  match a with
  | ⟨0, _⟩ => rfl
  | ⟨1, _⟩ => exact Fin.ext (by show h.val + 1 * 0 = 0 + 1 * h.val; omega)
  | ⟨2, _⟩ => rfl

/-- A load of a slot of the gathered queries. -/
theorem xag_load (k : ℕ) (hk : k < 3) (inb) (X : S512x1024.Idx → Elt F .bf16) :
    shapeCast S512x1024 (View.readAt (Elt F) xagM.view (Rect.unit (s := S3x512x1024) ![k, 0, 0] S1x512x1024.size inb).toLoadRect ((xagS k hk).view.rep X))
        shapeCasts_S1x512x1024_S512x1024 = X := View.read_rep (xagS k hk).view X

/-- The queries' input as loaded from its staging buffer. -/
theorem x_load (inb) (X : S512x1024.Idx → Elt F .bf16) :
    View.readAt (Elt F) sXM.view (Rect.unit (s := S512x1024) ![0, 0] S512x1024.size inb).toLoadRect (sXM.view.rep X) = X := by
  have e : View.readAt (Elt F) sXM.view (Rect.unit (s := S512x1024) ![0, 0] S512x1024.size inb).toLoadRect (sXM.view.rep X)
      = sXM.view.read (Elt F) (sXM.view.rep X) := by
    funext y
    rw [View.readAt_apply]
    congr 1
    funext a
    match a with
    | ⟨0, _⟩ => exact Fin.ext (by show 0 + 1 * (y 0).val = (y 0).val; omega)
    | ⟨1, _⟩ => exact Fin.ext (by show 0 + 1 * (y 1).val = (y 1).val; omega)
  rw [e, View.read_rep]

/-- A store of head `h` into slot `k` writes the heads side by side at the places it covers. -/
theorem sacc_piece (k : ℕ) (A : Fin 8 → FVec F S512x128 .f32) (h : Fin 8) (inb) (x : S1x1x512x128.Idx) :
    shapeCast S1x1x512x128 (A h) shapeCasts_S512x128_S1x1x512x128 x
      = (fun z : S3x8x512x128.Idx => stack A (ix3 (z 1) (z 2) (z 3))) ((Rect.unit (s := S3x8x512x128) ![k, h.val, 0, 0] S1x1x512x128.size inb).emb x) := by
  obtain ⟨u, w, i, j, rfl⟩ : ∃ (u : Fin 1) (w : Fin 1) (i : Fin 512) (j : Fin 128), x = ix4 u w i j := ⟨x 0, x 1, x 2, x 3, eq_ix4 x⟩
  rw [shapeCast_apply _ _ (ix4 u w i j) (ix2 i j) (by
    have hu : u.val = 0 := by omega
    have hw : w.val = 0 := by omega
    rw [Shape.rowMajor_val_four, Shape.rowMajor_val_two]
    show i.val * 128 + j.val = ((u.val * 1 + w.val) * 512 + i.val) * 128 + j.val
    omega)]
  have e : (Rect.unit (s := S3x8x512x128) ![k, h.val, 0, 0] S1x1x512x128.size inb).emb (ix4 u w i j) = (fun a => match a with
      | ⟨0, _⟩ => (⟨k, by have := inb 0; exact this⟩ : Fin 3) | ⟨1, _⟩ => h | ⟨2, _⟩ => i | ⟨3, _⟩ => j : S3x8x512x128.Idx) := by
    have hu : u.val = 0 := by omega
    have hw : w.val = 0 := by omega
    funext a
    match a with
    | ⟨0, _⟩ => exact Fin.ext (by show k + 1 * u.val = k; omega)
    | ⟨1, _⟩ => exact Fin.ext (by show h.val + 1 * w.val = h.val; omega)
    | ⟨2, _⟩ => exact Fin.ext (by show 0 + 1 * i.val = i.val; omega)
    | ⟨3, _⟩ => exact Fin.ext (by show 0 + 1 * j.val = j.val; omega)
  rw [e]
  rfl

theorem sacc_mem (k h' : ℕ) (hk : k < 3) (inb) (h : Fin 8) (i : Fin 512) (j : Fin 128) :
    (ix4 (⟨k, hk⟩ : Fin 3) h i j : S3x8x512x128.Idx) ∈ (Rect.unit (s := S3x8x512x128) ![k, h', 0, 0] S1x1x512x128.size inb).set ↔ h.val = h' := by
  rw [LoadRect.mem_set]
  constructor
  · intro hy
    obtain ⟨n, hn, e⟩ := hy 1
    have : n < 1 := hn
    have e' : h.val = h' + 1 * n := e
    omega
  · intro hy a
    match a with
    | ⟨0, _⟩ => exact ⟨0, Nat.one_pos, by show k = k + 1 * 0; omega⟩
    | ⟨1, _⟩ => exact ⟨0, Nat.one_pos, by show h.val = h' + 1 * 0; omega⟩
    | ⟨2, _⟩ => exact ⟨i.val, i.isLt, by show i.val = 0 + 1 * i.val; omega⟩
    | ⟨3, _⟩ => exact ⟨j.val, j.isLt, by show j.val = 0 + 1 * j.val; omega⟩

/-- An element of slot `k`, read through the whole buffer. -/
theorem sacc_slot_read (k : ℕ) (hk : k < 3) (g) (h : Fin 8) (i : Fin 512) (j : Fin 128) :
    (accS saccM k hk).view.read (Elt F) g (ix3 h i j) = saccM.view.read (Elt F) g (ix4 (⟨k, hk⟩ : Fin 3) h i j) := by
  have e : (accS saccM k hk).view.read (Elt F) g
      = shapeCast (s := S1x8x512x128) S8x512x128 (View.readAt (Elt F) saccM.view (Rect.unit (s := S3x8x512x128) ![k, 0, 0, 0] S1x8x512x128.size (inb_acc k hk)).toLoadRect g) (by decide) := rfl
  rw [e, shapeCast_1abc_abc_apply, View.readAt_apply]
  congr 1
  funext a
  match a with
  | ⟨0, _⟩ => rfl
  | ⟨1, _⟩ => exact Fin.ext (by show 0 + 1 * h.val = h.val; omega)
  | ⟨2, _⟩ => exact Fin.ext (by show 0 + 1 * i.val = i.val; omega)
  | ⟨3, _⟩ => exact Fin.ext (by show 0 + 1 * j.val = j.val; omega)

/-- The queries' projection as loaded from its staging buffer. -/
theorem wq_load (inb) (c : Dev nD) (f : Buf (Elt F) (sWqM.view.loc (c : Thread nD τ))) :
    View.readAt (Elt F) sWqM.view (Rect.unit (s := S1024x1024) ![0, 0] S1024x1024.size inb).toLoadRect f = sWqM.view.read (Elt F) f := by
  funext y
  rw [View.readAt_apply]
  congr 1
  funext a
  match a with
  | ⟨0, _⟩ => exact Fin.ext (by show 0 + 1 * (y 0).val = (y 0).val; omega)
  | ⟨1, _⟩ => exact Fin.ext (by show 0 + 1 * (y 1).val = (y 1).val; omega)

/-- The queries of a slot, as the device computes them. -/
theorem q_slot (k : ℕ) (hk : k < 3) (inb) (X : S512x1024.Idx → Elt F .bf16) (wq : S1024x1024.Idx → Elt F .bf16) :
    k0_pay2 (View.readAt (Elt F) xagM.view (Rect.unit (s := S3x512x1024) ![k, 0, 0] S1x512x1024.size inb).toLoadRect ((xagS k hk).view.rep X)) wq = qOf X wq := by
  have e := xag_load k hk inb X
  refine (congrArg (fun y => truncf .bf16 (mulf (matmul dot_S512x1024_S1024x1024_S512x1024_1_0_0_1_n_n none y (shapeCast S1024x1024 wq shapeCasts_S1024x1024_S1024x1024)
    (constant S512x1024 .f32 0x00000000#32)) (broadcast S512x1024 (Scalar.ofBits .f32 0x3DB504F3#32 : F .f32))) bitsLt_bf16_f32) (e.trans (shapeCast_self X shapeCasts_S512x1024_S512x1024).symm)).trans rfl

/-- The same loads at an offset known to be head `h`'s. -/
theorem racc_at (k : ℕ) (hk : k < 3) (h : Fin 8) (o : Fin 4 → ℕ) (inb) (R : S8x512x128.Idx → Elt F .f32) (ho : o = ![k, h.val, 0, 0]) :
    shapeCast S512x128 (View.readAt (Elt F) raccM.view (Rect.unit (s := S3x8x512x128) o S1x1x512x128.size inb).toLoadRect ((accS raccM k hk).view.rep R))
        shapeCasts_S1x1x512x128_S512x128 = headOf R h := by
  subst ho
  exact racc_load k hk h inb R
theorem rl_at (k : ℕ) (hk : k < 3) (h : Fin 8) (o : Fin 3 → ℕ) (inb) (R : S8x512.Idx → Elt F .f32) (ho : o = ![k, h.val, 0]) :
    shapeCast S512 (View.readAt (Elt F) rlM.view (Rect.unit (s := S3x8x512) o S1x1x512.size inb).toLoadRect ((lS rlM k hk).view.rep R))
        shapeCasts_S1x1x512_S512 = headOfL R h := by
  subst ho
  exact rl_load k hk h inb R

/-- Eight stores, one head each, fill slot `k` of the sums to send. -/
theorem sacc_read (k : ℕ) (hk : k < 3) (f) (A : Fin 8 → FVec F S512x128 .f32) (w0 w1 w2 w3 w4 w5 w6 w7 : S1x1x512x128.Idx → Elt F .f32)
    (h0 : w0 = shapeCast S1x1x512x128 (A 0) shapeCasts_S512x128_S1x1x512x128) (h1 : w1 = shapeCast S1x1x512x128 (A 1) shapeCasts_S512x128_S1x1x512x128)
    (h2 : w2 = shapeCast S1x1x512x128 (A 2) shapeCasts_S512x128_S1x1x512x128) (h3 : w3 = shapeCast S1x1x512x128 (A 3) shapeCasts_S512x128_S1x1x512x128)
    (h4 : w4 = shapeCast S1x1x512x128 (A 4) shapeCasts_S512x128_S1x1x512x128) (h5 : w5 = shapeCast S1x1x512x128 (A 5) shapeCasts_S512x128_S1x1x512x128)
    (h6 : w6 = shapeCast S1x1x512x128 (A 6) shapeCasts_S512x128_S1x1x512x128) (h7 : w7 = shapeCast S1x1x512x128 (A 7) shapeCasts_S512x128_S1x1x512x128)
    (i0 i1 i2 i3 i4 i5 i6 i7) :
    (accS saccM k hk).view.read (Elt F) (saccM.view.writes (Elt F) f
      [⟨Rect.unit (s := S3x8x512x128) ![k, 7, 0, 0] S1x1x512x128.size i7, w7⟩, ⟨Rect.unit (s := S3x8x512x128) ![k, 6, 0, 0] S1x1x512x128.size i6, w6⟩,
       ⟨Rect.unit (s := S3x8x512x128) ![k, 5, 0, 0] S1x1x512x128.size i5, w5⟩, ⟨Rect.unit (s := S3x8x512x128) ![k, 4, 0, 0] S1x1x512x128.size i4, w4⟩,
       ⟨Rect.unit (s := S3x8x512x128) ![k, 3, 0, 0] S1x1x512x128.size i3, w3⟩, ⟨Rect.unit (s := S3x8x512x128) ![k, 2, 0, 0] S1x1x512x128.size i2, w2⟩,
       ⟨Rect.unit (s := S3x8x512x128) ![k, 1, 0, 0] S1x1x512x128.size i1, w1⟩, ⟨Rect.unit (s := S3x8x512x128) ![k, 0, 0, 0] S1x1x512x128.size i0, w0⟩])
      = stack A := by
  subst h0 h1 h2 h3 h4 h5 h6 h7
  funext y
  obtain ⟨h, i, j, rfl⟩ : ∃ (h : Fin 8) (i : Fin 512) (j : Fin 128), y = ix3 h i j := ⟨y 0, y 1, y 2, eq_ix3 y⟩
  rw [sacc_slot_read]
  refine View.read_writes_apply_of_pieces saccM.view f (fun z : S3x8x512x128.Idx => stack A (ix3 (z 1) (z 2) (z 3))) _ ?_ _ ?_
  · intro p hp
    simp only [List.mem_cons, List.not_mem_nil, or_false] at hp
    rcases hp with rfl | rfl | rfl | rfl | rfl | rfl | rfl | rfl
    · exact sacc_piece k A 7 i7
    · exact sacc_piece k A 6 i6
    · exact sacc_piece k A 5 i5
    · exact sacc_piece k A 4 i4
    · exact sacc_piece k A 3 i3
    · exact sacc_piece k A 2 i2
    · exact sacc_piece k A 1 i1
    · exact sacc_piece k A 0 i0
  · simp only [List.mem_cons, List.not_mem_nil, or_false, exists_eq_or_imp, exists_eq_left]
    rw [sacc_mem, sacc_mem, sacc_mem, sacc_mem, sacc_mem, sacc_mem, sacc_mem, sacc_mem]
    omega

theorem sl_piece (k : ℕ) (A : Fin 8 → FVec F S512 .f32) (h : Fin 8) (inb) (x : S1x1x512.Idx) :
    shapeCast S1x1x512 (A h) shapeCasts_S512_S1x1x512 x
      = (fun z : S3x8x512.Idx => stackL A (ix2 (z 1) (z 2))) ((Rect.unit (s := S3x8x512) ![k, h.val, 0] S1x1x512.size inb).emb x) := by
  obtain ⟨u, w, i, rfl⟩ : ∃ (u : Fin 1) (w : Fin 1) (i : Fin 512), x = ix3 u w i := ⟨x 0, x 1, x 2, eq_ix3 x⟩
  rw [shapeCast_apply _ _ (ix3 u w i) (ix1 i) (by
    have hu : u.val = 0 := by omega
    have hw : w.val = 0 := by omega
    rw [Shape.rowMajor_val_three, Shape.rowMajor_val_one]
    show i.val = (u.val * 1 + w.val) * 512 + i.val
    omega)]
  have e : (Rect.unit (s := S3x8x512) ![k, h.val, 0] S1x1x512.size inb).emb (ix3 u w i) = (fun a => match a with
      | ⟨0, _⟩ => (⟨k, by have := inb 0; exact this⟩ : Fin 3) | ⟨1, _⟩ => h | ⟨2, _⟩ => i : S3x8x512.Idx) := by
    have hu : u.val = 0 := by omega
    have hw : w.val = 0 := by omega
    funext a
    match a with
    | ⟨0, _⟩ => exact Fin.ext (by show k + 1 * u.val = k; omega)
    | ⟨1, _⟩ => exact Fin.ext (by show h.val + 1 * w.val = h.val; omega)
    | ⟨2, _⟩ => exact Fin.ext (by show 0 + 1 * i.val = i.val; omega)
  rw [e]
  rfl

theorem sl_mem (k h' : ℕ) (hk : k < 3) (inb) (h : Fin 8) (i : Fin 512) :
    (ix3 (⟨k, hk⟩ : Fin 3) h i : S3x8x512.Idx) ∈ (Rect.unit (s := S3x8x512) ![k, h', 0] S1x1x512.size inb).set ↔ h.val = h' := by
  rw [LoadRect.mem_set]
  constructor
  · intro hy
    obtain ⟨n, hn, e⟩ := hy 1
    have : n < 1 := hn
    have e' : h.val = h' + 1 * n := e
    omega
  · intro hy a
    match a with
    | ⟨0, _⟩ => exact ⟨0, Nat.one_pos, by show k = k + 1 * 0; omega⟩
    | ⟨1, _⟩ => exact ⟨0, Nat.one_pos, by show h.val = h' + 1 * 0; omega⟩
    | ⟨2, _⟩ => exact ⟨i.val, i.isLt, by show i.val = 0 + 1 * i.val; omega⟩

theorem sl_slot_read (k : ℕ) (hk : k < 3) (g) (h : Fin 8) (i : Fin 512) :
    (lS slM k hk).view.read (Elt F) g (ix2 h i) = slM.view.read (Elt F) g (ix3 (⟨k, hk⟩ : Fin 3) h i) := by
  have e : (lS slM k hk).view.read (Elt F) g
      = shapeCast (s := S1x8x512) S8x512 (View.readAt (Elt F) slM.view (Rect.unit (s := S3x8x512) ![k, 0, 0] S1x8x512.size (inb_l k hk)).toLoadRect g) (by decide) := rfl
  rw [e, shapeCast_1ab_ab_apply, View.readAt_apply]
  congr 1
  funext a
  match a with
  | ⟨0, _⟩ => rfl
  | ⟨1, _⟩ => exact Fin.ext (by show 0 + 1 * h.val = h.val; omega)
  | ⟨2, _⟩ => exact Fin.ext (by show 0 + 1 * i.val = i.val; omega)

/-- The same for the denominators to send. -/
theorem sl_read (k : ℕ) (hk : k < 3) (f) (A : Fin 8 → FVec F S512 .f32) (w0 w1 w2 w3 w4 w5 w6 w7 : S1x1x512.Idx → Elt F .f32)
    (h0 : w0 = shapeCast S1x1x512 (A 0) shapeCasts_S512_S1x1x512) (h1 : w1 = shapeCast S1x1x512 (A 1) shapeCasts_S512_S1x1x512)
    (h2 : w2 = shapeCast S1x1x512 (A 2) shapeCasts_S512_S1x1x512) (h3 : w3 = shapeCast S1x1x512 (A 3) shapeCasts_S512_S1x1x512)
    (h4 : w4 = shapeCast S1x1x512 (A 4) shapeCasts_S512_S1x1x512) (h5 : w5 = shapeCast S1x1x512 (A 5) shapeCasts_S512_S1x1x512)
    (h6 : w6 = shapeCast S1x1x512 (A 6) shapeCasts_S512_S1x1x512) (h7 : w7 = shapeCast S1x1x512 (A 7) shapeCasts_S512_S1x1x512)
    (i0 i1 i2 i3 i4 i5 i6 i7) :
    (lS slM k hk).view.read (Elt F) (slM.view.writes (Elt F) f
      [⟨Rect.unit (s := S3x8x512) ![k, 7, 0] S1x1x512.size i7, w7⟩, ⟨Rect.unit (s := S3x8x512) ![k, 6, 0] S1x1x512.size i6, w6⟩,
       ⟨Rect.unit (s := S3x8x512) ![k, 5, 0] S1x1x512.size i5, w5⟩, ⟨Rect.unit (s := S3x8x512) ![k, 4, 0] S1x1x512.size i4, w4⟩,
       ⟨Rect.unit (s := S3x8x512) ![k, 3, 0] S1x1x512.size i3, w3⟩, ⟨Rect.unit (s := S3x8x512) ![k, 2, 0] S1x1x512.size i2, w2⟩,
       ⟨Rect.unit (s := S3x8x512) ![k, 1, 0] S1x1x512.size i1, w1⟩, ⟨Rect.unit (s := S3x8x512) ![k, 0, 0] S1x1x512.size i0, w0⟩])
      = stackL A := by
  subst h0 h1 h2 h3 h4 h5 h6 h7
  funext y
  obtain ⟨h, i, rfl⟩ : ∃ (h : Fin 8) (i : Fin 512), y = ix2 h i := ⟨y 0, y 1, eq_ix2 y⟩
  rw [sl_slot_read]
  refine View.read_writes_apply_of_pieces slM.view f (fun z : S3x8x512.Idx => stackL A (ix2 (z 1) (z 2))) _ ?_ _ ?_
  · intro p hp
    simp only [List.mem_cons, List.not_mem_nil, or_false] at hp
    rcases hp with rfl | rfl | rfl | rfl | rfl | rfl | rfl | rfl
    · exact sl_piece k A 7 i7
    · exact sl_piece k A 6 i6
    · exact sl_piece k A 5 i5
    · exact sl_piece k A 4 i4
    · exact sl_piece k A 3 i3
    · exact sl_piece k A 2 i2
    · exact sl_piece k A 1 i1
    · exact sl_piece k A 0 i0
  · simp only [List.mem_cons, List.not_mem_nil, or_false, exists_eq_or_imp, exists_eq_left]
    rw [sl_mem, sl_mem, sl_mem, sl_mem, sl_mem, sl_mem, sl_mem, sl_mem]
    omega

/-- One store over the whole of the result's staging buffer. -/
theorem out_read (f) (w : S512x1024.Idx → Elt F .f32) (inb) :
    outM.view.read (Elt F) (outM.view.writes (Elt F) f [⟨Rect.unit (s := S512x1024) ![0, 0] S512x1024.size inb, w⟩]) = w := by
  funext y
  obtain ⟨i, j, rfl⟩ : ∃ (i : Fin 512) (j : Fin 1024), y = ix2 i j := ⟨y 0, y 1, eq_ix2 y⟩
  refine View.read_writes_apply_of_pieces outM.view f w _ ?_ _ ?_
  · intro p hp x
    obtain rfl := List.mem_singleton.mp hp
    show w x = w ((Rect.unit (s := S512x1024) ![0, 0] S512x1024.size inb).emb x)
    congr 1
    funext a
    match a with
    | ⟨0, _⟩ => exact Fin.ext (by show (x 0).val = 0 + 1 * (x 0).val; omega)
    | ⟨1, _⟩ => exact Fin.ext (by show (x 1).val = 0 + 1 * (x 1).val; omega)
  · refine ⟨_, List.mem_singleton_self _, ?_⟩
    rw [LoadRect.mem_set]
    intro a
    match a with
    | ⟨0, _⟩ => exact ⟨i.val, i.isLt, by show i.val = 0 + 1 * i.val; omega⟩
    | ⟨1, _⟩ => exact ⟨j.val, j.isLt, by show j.val = 0 + 1 * j.val; omega⟩

end Cert.KernelIdealProof
-- ==== Proof.KI.Body.lean ====
module

public import proofs.«01_k».proof.Proof.KI.Steps
public import proofs.«01_k».proof.Proof.KI.Values
public import Idealize.ShloMosaic.Lib.Tactic.Stretches

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]
local notation "𝕄" => MT nD τ sig Unit (Elt F) ℕ UU ℕ

/-- A buffer of device `c` held whole. -/
abbrev held (c : Dev nD) {sp : Space} {s : Shape} {e : EltTy} (M : Memref sig .tc sp s e) (f : Buf (Elt F) (M.view.loc (c : Thread nD τ))) : sProp 𝕄 :=
  M.view.loc (c : Thread nD τ) ↦{fullShare} f

/-- What device `c` waits with for a transfer on its semaphore `n`. -/
def rcv (c : Dev nD) (n N : ℕ) (hn : n < 23 := by decide) : sProp 𝕄 :=
  iprop(cred (tallyAt (dcell c n hn) () N) ∗ atPos ER (dcell c n hn) 0 ∅ 0)

/-- What the copies carry at device `c`, in terms of its buffers' contents: its own block of queries is the last it works on. -/
structure Carries (v : Vals F) (c : Dev nD) (wq : S1024x1024.Idx → Elt F .bf16) (kv : S2x8x2048x128.Idx → Elt F .bf16) : Prop where
  acc0 : v.acc 0 c = sendAcc (qOf (v.xg 0 c) wq) kv
  l0 : v.l 0 c = sendL (qOf (v.xg 0 c) wq) kv
  acc1 : v.acc 1 c = passAcc (qOf (v.xg 1 c) wq) kv (v.acc 0 (prv c))
  l1 : v.l 1 c = passL (qOf (v.xg 1 c) wq) kv (v.l 0 (prv c))
  acc2 : v.acc 2 c = passAcc (qOf (v.xg 2 c) wq) kv (v.acc 1 (prv c))
  l2 : v.l 2 c = passL (qOf (v.xg 2 c) wq) kv (v.l 1 (prv c))

theorem forget {s : Shape} {e : EltTy} (c : Dev nD) (M : Memref sig .tc .vmem s e) (f : Buf (Elt F) (M.view.loc (c : Thread nD τ))) :
    held c M f ⊢ iprop(∃ g, held c M g) := by
  iintro H
  iexists f
  iexact H

/-- A buffer held whole, the values it holds named. -/
theorem whole_read {s : Shape} {e : EltTy} (c : Dev nD) (M : Memref sig .tc .vmem s e) (f : Buf (Elt F) (M.view.loc (c : Thread nD τ))) :
    held c M f ⊢ iprop(∃ X, ⌜M.view.read (Elt F) f = X⌝ ∗ ∃ g, ⌜M.view.read (Elt F) g = X⌝ ∗ held c M g) := by
  iintro H
  iexists _
  isplitr; · ipureintro; rfl
  iexists f
  isplitr; · ipureintro; rfl
  iexact H

/-- What the body leaves: nothing owed, the inputs as they were, the result's block, the scratch buffers whole at contents not
    named, and every semaphore at zero. -/
def bodyPost (v : Vals F) (c : Dev nD) (fwq : Buf (Elt F) (sWqM.view.loc (c : Thread nD τ))) (fwo : Buf (Elt F) (sWoM.view.loc (c : Thread nD τ)))
    (fkv : Buf (Elt F) (kvM.view.loc (c : Thread nD τ))) : sProp 𝕄 :=
  iprop(owing c 0 ∗ piece c sXM fullShare (v.x c) ∗ held c sWqM fwq ∗ held c sWoM fwo ∗ held c kvM fkv
    ∗ (∃ f, ⌜outM.view.read (Elt F) f = outOf (qOf (v.x c) (sWqM.view.read (Elt F) fwq)) (kvM.view.read (Elt F) fkv) (sWoM.view.read (Elt F) fwo) (v.acc 2 (prv c)) (v.l 2 (prv c))⌝
      ∗ held c outM f)
    ∗ (∃ f, held c xagM f) ∗ (∃ f, held c paccM f) ∗ (∃ f, held c saccM f) ∗ (∃ f, held c raccM f) ∗ (∃ f, held c slM f) ∗ (∃ f, held c rlM f)
    ∗ semVal (barCell c) 0 ∗ bigSep Finset.univ fun k : Fin 18 => semVal ((c : Thread nD τ), osem k) 0)

set_option maxHeartbeats 1500000 in
set_option maxRecDepth 65536 in
theorem sound_body (v : Vals F) (κ : GSem nD τ sig → ℕ) (c : Dev nD) (Kt : PUnit → sProp 𝕄)
    (fwq : Buf (Elt F) (sWqM.view.loc (c : Thread nD τ))) (fwo : Buf (Elt F) (sWoM.view.loc (c : Thread nD τ))) (fkv : Buf (Elt F) (kvM.view.loc (c : Thread nD τ)))
    (fo : Buf (Elt F) (outM.view.loc (c : Thread nD τ))) (fp : Buf (Elt F) (paccM.view.loc (c : Thread nD τ)))
    (fs : Buf (Elt F) (saccM.view.loc (c : Thread nD τ))) (ft : Buf (Elt F) (slM.view.loc (c : Thread nD τ)))
    (hv : Carries v c (sWqM.view.read (Elt F) fwq) (kvM.view.read (Elt F) fkv)) :
    iprop(records v κ ∗ levAts L lv ∗ owing c (tally (oweList c)) ∗
       (piece c sXM halfL (v.x c) ∗ piece c sXM halfR (v.x c)) ∗
       held c sWqM fwq ∗ held c sWoM fwo ∗ held c kvM fkv ∗ held c outM fo ∗ held c paccM fp ∗ held c saccM fs ∗ held c slM ft ∗
       (dutyTok ER (barCell (prv c)) 0 true ∗ slots c ∗ opens c) ∗ dutyTok ER (barCell (nxt c)) 0 false ∗
       (cred (tallyAt (barCell c) () 2) ∗ atPos ER (barCell c) 0 ∅ 0) ∗
       (sendTok c 5 8 ∗ sendTok c 6 9 ∗ sendTok c 11 14 ∗ sendTok c 17 20 ∗ sendTok c 7 10 ∗ sendTok c 12 15 ∗ sendTok c 18 21 ∗
        sendTok c 13 16 ∗ sendTok c 19 22) ∗
       (rcv c 8 NX ∗ rcv c 9 NX ∗ rcv c 14 NA ∗ rcv c 20 NL ∗ rcv c 10 NX ∗ rcv c 15 NA ∗ rcv c 21 NL ∗ rcv c 16 NA ∗ rcv c 22 NL) ∗
       (atPos ER (dcell c 5) 0 ∅ 0 ∗ atPos ER (dcell c 6) 0 ∅ 0 ∗ atPos ER (dcell c 11) 0 ∅ 0 ∗ atPos ER (dcell c 17) 0 ∅ 0 ∗ atPos ER (dcell c 7) 0 ∅ 0 ∗
        atPos ER (dcell c 12) 0 ∅ 0 ∗ atPos ER (dcell c 18) 0 ∅ 0 ∗ atPos ER (dcell c 13) 0 ∅ 0 ∗ atPos ER (dcell c 19) 0 ∅ 0) ∗
       (bodyPost v c fwq fwo fkv -∗ Kt ⟨⟩))
      ⊢ wp frame (wpE (defs₀ (F := F)) 𝒱₀ c none) Set.univ
          (cc0__body sXM (Memref.isWhole_whole _) sWqM (Memref.isWhole_whole _) sWoM (Memref.isWhole_whole _) kvM (Memref.isWhole_whole _) outM (Memref.isWhole_whole _)
            xagM (Memref.isWhole_whole _) paccM (Memref.isWhole_whole _) saccM (Memref.isWhole_whole _) raccM (Memref.isWhole_whole _) slM (Memref.isWhole_whole _) rlM (Memref.isWhole_whole _)
            cc0_scratch6 cc0_scratch7 cc0_scratch8 cc0_scratch9 cc0_scratch10 cc0_scratch11) Kt := by
  iintro ⟨#HR, #Hlev, HO, ⟨Hxl, Hxr⟩, Hwq, Hwo, Hkv, Hout, Hpa, Hsa, Hst, ⟨Htl, Hsl, Hop⟩, Htr, ⟨Hcb, Hab⟩,
    ⟨T5, T6, T11, T17, T7, T12, T18, T13, T19⟩, ⟨R8, R9, R14, R20, R10, R15, R21, R16, R22⟩, ⟨A5, A6, A11, A17, A7, A12, A18, A13, A19⟩, Hk⟩
  sl_unfold [cc0__body]
  sl_exec_parts
  iapply (step_signal v κ c (prv c) _ true (dev_left c _) _) $$ [HO Htl Hsl Hop]
  · isplitr; · iexact HR
    isplitl [HO]; · iexact HO
    isplitl [Htl]; · iexact Htl
    iapply (show iprop(slots c ∗ opens c) ⊢ (talkRd v).payload (barCell (prv c)) 0 true from Entails.of_eq (by show _ = barPay (nxt (prv c)); rw [nxt_prv]; rfl))
    isplitl [Hsl] <;> iassumption
  iintro HO
  sl_exec_parts
  iapply (step_signal v κ c (nxt c) _ false (dev_right c _) _) $$ [HO Htr]
  · isplitr; · iexact HR
    isplitl [HO]; · iexact HO
    isplitl [Htr]; · iexact Htr
    iapply (show iprop(emp) ⊢ (talkRd v).payload (barCell (nxt c)) 0 false from BI.Entails.refl _)
    iempintro
  iintro HO
  sl_exec_parts
  iapply (step_barrier v κ c) $$ [HO Hcb Hab]
  · isplitr; · iexact HR
    isplitl [Hcb]; · iexact Hcb
    isplitl [HO]; · iexact HO
    isplitr; · iexact Hlev
    iexact Hab
  unfold slots opens
  iintro ⟨HO, Hab, ⟨Dx0, Dx1, Dx2, Da0, Da1, Da2, Dl0, Dl1, Dl2⟩, #P8, #P9, #P10, #P14, #P15, #P16, #P20, #P21, #P22⟩
  sl_exec_parts
  iapply (step_send v κ c _ (src := sXM) (dst := xagS 0) (v.x c) 5 8 (by decide) (by decide) (by decide) (by decide) (dev_right c _) rfl rfl NX rfl rfl rfl _
    (BI.Entails.refl _) (by show _ ⊢ piece _ _ _ (v.xg 0 (nxt c)); rw [Vals.xg_zero_nxt])) $$ [HO Hxl Dx0 T5]
  · isplitr; · iexact HR
    isplitl [Hxl]; · iexact Hxl
    isplitl [Dx0]; · iexact Dx0
    isplitl [HO]; · iexact HO
    isplitl [T5]; · iexact T5
    iexact P8
  iintro ⟨C5, HO⟩
  sl_exec_parts
  unfold rcv
  icases R8 with ⟨Rc, Ra⟩
  iapply (step_wait v κ c 8 (by decide) (by decide) rfl NX rfl rfl _ (mayWait_copies c _ 1 2 rfl (by decide))) $$ [HO Rc Ra]
  · isplitr; · iexact HR
    isplitl [Rc]; · iexact Rc
    isplitl [HO]; · iexact HO
    isplitr; · iexact Hlev
    iexact Ra
  iintro ⟨HO, A8, Hx0⟩
  ihave Hx0' := (show dmaPay v c 8 ⊢ _ from arrive_xag c 1 2 0 (by decide) (by decide) (by decide) (by decide) (by decide) (by decide) (v.xg 0 c)) $$ Hx0
  icases Hx0' with ⟨Hx0l, Hx0r⟩
  sl_exec_parts
  iapply (step_send v κ c _ (src := xagS 0) (dst := xagS 1) (v.xg 0 c) 6 9 (by decide) (by decide) (by decide) (by decide) (dev_right c _) rfl rfl NX rfl rfl rfl _
    (BI.Entails.refl _) (by show _ ⊢ piece _ _ _ (v.xg 1 (nxt c)); rw [Vals.xg_succ_nxt])) $$ [HO Hx0l Dx1 T6]
  · isplitr; · iexact HR
    isplitl [Hx0l]; · iexact Hx0l
    isplitl [Dx1]; · iexact Dx1
    isplitl [HO]; · iexact HO
    isplitl [T6]; · iexact T6
    iexact P9
  iintro ⟨C6, HO⟩
  sl_exec_parts

  have hx : ∀ i₁ e₁, shapeCast S512x1024 (View.readAt (Elt F) xagM.view (Rect.unit (s := S3x512x1024) ![0, 0, 0] S1x512x1024.size i₁).toLoadRect ((xagS 0 lt0).view.rep (v.xg 0 c))) e₁
      = shapeCast S512x1024 (v.xg 0 c) shapeCasts_S512x1024_S512x1024 :=
    fun i₁ e₁ => (xag_load 0 lt0 i₁ (v.xg 0 c)).trans (shapeCast_self (v.xg 0 c) shapeCasts_S512x1024_S512x1024).symm
  have hw : ∀ i₂, View.readAt (Elt F) sWqM.view (Rect.unit (s := S1024x1024) ![0, 0] S1024x1024.size i₂).toLoadRect fwq = sWqM.view.read (Elt F) fwq :=
    fun i₂ => wq_load i₂ c fwq
  ihave Hsa' := (sacc_take c 0 lt0 Finset.univ sacc_sub0 _) $$ Hsa
  icases Hsa' with ⟨%X, %hs, Hs0, ⟨%fs1, Hsa⟩⟩
  ihave Hst' := (sl_take c 0 lt0 Finset.univ sl_sub0 _) $$ Hst
  icases Hst' with ⟨%Y, %hl, Ht0, ⟨%ft1, Hst⟩⟩
  obtain rfl : v.acc 0 c = X := by
    rw [hv.acc0, ← hs]
    symm
    sl_open_run
    refine sacc_read 0 lt0 fs (accH (qOf (v.xg 0 c) (sWqM.view.read (Elt F) fwq)) (kvM.view.read (Elt F) fkv)) _ _ _ _ _ _ _ _ ?_ ?_ ?_ ?_ ?_ ?_ ?_ ?_ _ _ _ _ _ _ _ _
    all_goals
      simp (disch := decide) only [↓ View.readCov_skip, ↓ View.readCov_cons_toLoadRect, ↓ View.readCov_fill]
      generalize hX : View.readAt (Elt F) (View.whole cc0_scratch0) _ _ = X
      generalize hW : View.readAt (Elt F) (View.whole cc0_stg1_0) _ _ = W
      have hX' := fun e => (congrArg (fun y => shapeCast S512x1024 y e) hX.symm).trans (hx (by decide) e)
      have hW' := hW.symm.trans (hw (by decide))
      subst hW'
      sl_open_pay
      simp only [shapeCast_shapeCast, hX']
      rfl
  obtain rfl : v.l 0 c = Y := by
    rw [hv.l0, ← hl]
    symm
    sl_open_run
    refine sl_read 0 lt0 ft (lH (qOf (v.xg 0 c) (sWqM.view.read (Elt F) fwq)) (kvM.view.read (Elt F) fkv)) _ _ _ _ _ _ _ _ ?_ ?_ ?_ ?_ ?_ ?_ ?_ ?_ _ _ _ _ _ _ _ _
    all_goals
      simp (disch := decide) only [↓ View.readCov_skip, ↓ View.readCov_cons_toLoadRect, ↓ View.readCov_fill]
      generalize hX : View.readAt (Elt F) (View.whole cc0_scratch0) _ _ = X
      generalize hW : View.readAt (Elt F) (View.whole cc0_stg1_0) _ _ = W
      have hX' := fun e => (congrArg (fun y => shapeCast S512x1024 y e) hX.symm).trans (hx (by decide) e)
      have hW' := hW.symm.trans (hw (by decide))
      subst hW'
      sl_open_pay
      simp only [shapeCast_shapeCast, hX']
      rfl
  clear hs hl
  ihave Hpa' := (forget c paccM _) $$ Hpa
  icases Hpa' with ⟨%fp1, Hpa⟩
  iapply (step_send v κ c _ (src := accS saccM 0 lt0) (dst := accS raccM 0 lt0) (v.acc 0 c) 11 14 (by decide) (by decide) (by decide) (by decide) (dev_right c _) rfl rfl NA rfl rfl rfl _
    (BI.Entails.refl _) (by show _ ⊢ piece _ _ _ (v.acc 0 (prv (nxt c))); rw [prv_nxt])) $$ [HO Hs0 Da0 T11]
  · isplitr; · iexact HR
    isplitl [Hs0]; · iexact Hs0
    isplitl [Da0]; · iexact Da0
    isplitl [HO]; · iexact HO
    isplitl [T11]; · iexact T11
    iexact P14
  iintro ⟨C11, HO⟩
  sl_exec_parts
  iapply (step_send v κ c _ (src := lS slM 0 lt0) (dst := lS rlM 0 lt0) (v.l 0 c) 17 20 (by decide) (by decide) (by decide) (by decide) (dev_right c _) rfl rfl NL rfl rfl rfl _
    (BI.Entails.refl _) (by show _ ⊢ piece _ _ _ (v.l 0 (prv (nxt c))); rw [prv_nxt])) $$ [HO Ht0 Dl0 T17]
  · isplitr; · iexact HR
    isplitl [Ht0]; · iexact Ht0
    isplitl [Dl0]; · iexact Dl0
    isplitl [HO]; · iexact HO
    isplitl [T17]; · iexact T17
    iexact P20
  iintro ⟨C17, HO⟩
  sl_exec_parts
  ihave Hx0r := (Entails.of_eq (xag_piece 1 2 0 lt1 lt2 lt0 (by decide) (by decide) (by decide) c halfR (v.xg 0 c)).symm) $$ Hx0r
  icases R9 with ⟨Rc, Ra⟩
  iapply (step_wait v κ c (src := xagS 0) (dst := xagS 1) 9 (by decide) (by decide) rfl NX rfl rfl _ (mayWait_copies c _ 4 3 rfl (by decide))) $$ [HO Rc Ra]
  · isplitr; · iexact HR
    isplitl [Rc]; · iexact Rc
    isplitl [HO]; · iexact HO
    isplitr; · iexact Hlev
    iexact Ra
  iintro ⟨HO, A9, Hx1⟩
  ihave Hx1' := (show dmaPay v c 9 ⊢ _ from arrive_xag c 0 2 1 (by decide) (by decide) (by decide) (by decide) (by decide) (by decide) (v.xg 1 c)) $$ Hx1
  icases Hx1' with ⟨Hx1l, Hx1r⟩
  sl_exec_parts
  iapply (step_send v κ c _ (src := xagS 1) (dst := xagS 2) (v.xg 1 c) 7 10 (by decide) (by decide) (by decide) (by decide) (dev_right c _) rfl rfl NX rfl rfl rfl _
    (BI.Entails.refl _) (by show _ ⊢ piece _ _ _ (v.xg 2 (nxt c)); rw [Vals.xg_succ_nxt])) $$ [HO Hx1l Dx2 T7]
  · isplitr; · iexact HR
    isplitl [Hx1l]; · iexact Hx1l
    isplitl [Dx2]; · iexact Dx2
    isplitl [HO]; · iexact HO
    isplitl [T7]; · iexact T7
    iexact P10
  iintro ⟨C7, HO⟩
  sl_exec_parts
  icases R14 with ⟨Rc, Ra⟩
  iapply (step_wait v κ c (src := accS saccM 0) (dst := accS raccM 0) 14 (by decide) (by decide) rfl NA rfl rfl _ (mayWait_copies c _ 5 4 rfl (by decide))) $$ [HO Rc Ra]
  · isplitr; · iexact HR
    isplitl [Rc]; · iexact Rc
    isplitl [HO]; · iexact HO
    isplitr; · iexact Hlev
    iexact Ra
  iintro ⟨HO, A14, Hr0⟩
  ihave Hr0 := (show dmaPay v c 14 ⊢ _ from Entails.of_eq (racc_piece 1 2 0 lt1 lt2 lt0 (by decide) (by decide) (by decide) c fullShare (v.acc 0 (prv c)))) $$ Hr0
  sl_exec_parts
  icases R20 with ⟨Rc, Ra⟩
  iapply (step_wait v κ c (src := lS slM 0) (dst := lS rlM 0) 20 (by decide) (by decide) rfl NL rfl rfl _ (mayWait_copies c _ 5 4 rfl (by decide))) $$ [HO Rc Ra]
  · isplitr; · iexact HR
    isplitl [Rc]; · iexact Rc
    isplitl [HO]; · iexact HO
    isplitr; · iexact Hlev
    iexact Ra
  iintro ⟨HO, A20, Hrl0⟩
  ihave Hrl0 := (show dmaPay v c 20 ⊢ _ from Entails.of_eq (rl_piece 1 2 0 lt1 lt2 lt0 (by decide) (by decide) (by decide) c fullShare (v.l 0 (prv c)))) $$ Hrl0
  sl_exec_parts
  have hx1 : ∀ i₁ e₁, shapeCast S512x1024 (View.readAt (Elt F) xagM.view (Rect.unit (s := S3x512x1024) ![1, 0, 0] S1x512x1024.size i₁).toLoadRect ((xagS 1 lt1).view.rep (v.xg 1 c))) e₁
      = shapeCast S512x1024 (v.xg 1 c) shapeCasts_S512x1024_S512x1024 :=
    fun i₁ e₁ => (xag_load 1 lt1 i₁ (v.xg 1 c)).trans (shapeCast_self (v.xg 1 c) shapeCasts_S512x1024_S512x1024).symm
  ihave Hsa' := (sacc_take c 1 lt1 _ sacc_sub1 _) $$ Hsa
  icases Hsa' with ⟨%X, %hs, Hs1, ⟨%fs2, Hsa⟩⟩
  ihave Hst' := (sl_take c 1 lt1 _ sl_sub1 _) $$ Hst
  icases Hst' with ⟨%Y, %hl, Ht1, ⟨%ft2, Hst⟩⟩
  obtain rfl : v.acc 1 c = X := by
    rw [hv.acc1, ← hs]
    symm
    sl_open_run
    refine sacc_read 1 lt1 fs1 (fun h => addf (accH (qOf (v.xg 1 c) (sWqM.view.read (Elt F) fwq)) (kvM.view.read (Elt F) fkv) h) (headOf (v.acc 0 (prv c)) h)) _ _ _ _ _ _ _ _ ?_ ?_ ?_ ?_ ?_ ?_ ?_ ?_ _ _ _ _ _ _ _ _
    all_goals
      simp (disch := decide) only [↓ View.readCov_skip, ↓ View.readCov_cons_toLoadRect, ↓ View.readCov_fill]
      generalize hX : View.readAt (Elt F) (View.whole cc0_scratch0) _ _ = X
      generalize hW : View.readAt (Elt F) (View.whole cc0_stg1_0) _ _ = W
      generalize hR : View.readAt (Elt F) (View.whole cc0_scratch3) _ _ = R
      have hX' := fun e => (congrArg (fun y => shapeCast S512x1024 y e) hX.symm).trans (hx1 (by decide) e)
      have hW' := hW.symm.trans (hw (by decide))
      subst hW'
      sl_open_pay
      simp only [shapeCast_shapeCast, hX']
      subst hR
      refine congrArg (fun z => shapeCast S1x1x512x128 z shapeCasts_S512x128_S1x1x512x128) (congrArg₂ addf ?_ ?_)
      · rfl
      · exact racc_at 0 lt0 _ _ (by decide) (v.acc 0 (prv c)) rfl
  obtain rfl : v.l 1 c = Y := by
    rw [hv.l1, ← hl]
    symm
    sl_open_run
    refine sl_read 1 lt1 ft1 (fun h => addf (lH (qOf (v.xg 1 c) (sWqM.view.read (Elt F) fwq)) (kvM.view.read (Elt F) fkv) h) (headOfL (v.l 0 (prv c)) h)) _ _ _ _ _ _ _ _ ?_ ?_ ?_ ?_ ?_ ?_ ?_ ?_ _ _ _ _ _ _ _ _
    all_goals
      simp (disch := decide) only [↓ View.readCov_skip, ↓ View.readCov_cons_toLoadRect, ↓ View.readCov_fill]
      generalize hX : View.readAt (Elt F) (View.whole cc0_scratch0) _ _ = X
      generalize hW : View.readAt (Elt F) (View.whole cc0_stg1_0) _ _ = W
      generalize hR : View.readAt (Elt F) (View.whole cc0_scratch5) _ _ = R
      have hX' := fun e => (congrArg (fun y => shapeCast S512x1024 y e) hX.symm).trans (hx1 (by decide) e)
      have hW' := hW.symm.trans (hw (by decide))
      subst hW'
      sl_open_pay
      simp only [shapeCast_shapeCast, hX']
      subst hR
      refine congrArg (fun z => shapeCast S1x1x512 z shapeCasts_S512_S1x1x512) (congrArg₂ addf ?_ ?_)
      · rfl
      · exact rl_at 0 lt0 _ _ (by decide) (v.l 0 (prv c)) rfl
  clear hs hl hx1
  ihave Hpa' := (forget c paccM _) $$ Hpa
  icases Hpa' with ⟨%fp2, Hpa⟩
  ihave Hr0 := (Entails.of_eq (racc_piece 1 2 0 lt1 lt2 lt0 (by decide) (by decide) (by decide) c fullShare (v.acc 0 (prv c))).symm) $$ Hr0
  ihave Hrl0 := (Entails.of_eq (rl_piece 1 2 0 lt1 lt2 lt0 (by decide) (by decide) (by decide) c fullShare (v.l 0 (prv c))).symm) $$ Hrl0
  ihave Hx1r := (Entails.of_eq (xag_piece 0 2 1 lt0 lt2 lt1 (by decide) (by decide) (by decide) c halfR (v.xg 1 c)).symm) $$ Hx1r
  iapply (step_send v κ c _ (src := accS saccM 1 lt1) (dst := accS raccM 1 lt1) (v.acc 1 c) 12 15 (by decide) (by decide) (by decide) (by decide) (dev_right c _) rfl rfl NA rfl rfl rfl _
    (BI.Entails.refl _) (by show _ ⊢ piece _ _ _ (v.acc 1 (prv (nxt c))); rw [prv_nxt])) $$ [HO Hs1 Da1 T12]
  · isplitr; · iexact HR
    isplitl [Hs1]; · iexact Hs1
    isplitl [Da1]; · iexact Da1
    isplitl [HO]; · iexact HO
    isplitl [T12]; · iexact T12
    iexact P15
  iintro ⟨C12, HO⟩
  sl_exec_parts
  iapply (step_send v κ c _ (src := lS slM 1 lt1) (dst := lS rlM 1 lt1) (v.l 1 c) 18 21 (by decide) (by decide) (by decide) (by decide) (dev_right c _) rfl rfl NL rfl rfl rfl _
    (BI.Entails.refl _) (by show _ ⊢ piece _ _ _ (v.l 1 (prv (nxt c))); rw [prv_nxt])) $$ [HO Ht1 Dl1 T18]
  · isplitr; · iexact HR
    isplitl [Ht1]; · iexact Ht1
    isplitl [Dl1]; · iexact Dl1
    isplitl [HO]; · iexact HO
    isplitl [T18]; · iexact T18
    iexact P21
  iintro ⟨C18, HO⟩
  sl_exec_parts
  icases R10 with ⟨Rc, Ra⟩
  iapply (step_wait v κ c (src := xagS 1) (dst := xagS 2) 10 (by decide) (by decide) rfl NX rfl rfl _ (mayWait_copies c _ 7 5 rfl (by decide))) $$ [HO Rc Ra]
  · isplitr; · iexact HR
    isplitl [Rc]; · iexact Rc
    isplitl [HO]; · iexact HO
    isplitr; · iexact Hlev
    iexact Ra
  iintro ⟨HO, A10, Hx2⟩
  ihave Hx2 := (show dmaPay v c 10 ⊢ _ from Entails.of_eq (xag_piece 0 1 2 lt0 lt1 lt2 (by decide) (by decide) (by decide) c fullShare (v.xg 2 c))) $$ Hx2
  sl_exec_parts
  icases R15 with ⟨Rc, Ra⟩
  iapply (step_wait v κ c (src := accS saccM 1) (dst := accS raccM 1) 15 (by decide) (by decide) rfl NA rfl rfl _ (mayWait_copies c _ 7 5 rfl (by decide))) $$ [HO Rc Ra]
  · isplitr; · iexact HR
    isplitl [Rc]; · iexact Rc
    isplitl [HO]; · iexact HO
    isplitr; · iexact Hlev
    iexact Ra
  iintro ⟨HO, A15, Hr1⟩
  ihave Hr1 := (show dmaPay v c 15 ⊢ _ from Entails.of_eq (racc_piece 0 2 1 lt0 lt2 lt1 (by decide) (by decide) (by decide) c fullShare (v.acc 1 (prv c)))) $$ Hr1
  sl_exec_parts
  icases R21 with ⟨Rc, Ra⟩
  iapply (step_wait v κ c (src := lS slM 1) (dst := lS rlM 1) 21 (by decide) (by decide) rfl NL rfl rfl _ (mayWait_copies c _ 7 5 rfl (by decide))) $$ [HO Rc Ra]
  · isplitr; · iexact HR
    isplitl [Rc]; · iexact Rc
    isplitl [HO]; · iexact HO
    isplitr; · iexact Hlev
    iexact Ra
  iintro ⟨HO, A21, Hrl1⟩
  ihave Hrl1 := (show dmaPay v c 21 ⊢ _ from Entails.of_eq (rl_piece 0 2 1 lt0 lt2 lt1 (by decide) (by decide) (by decide) c fullShare (v.l 1 (prv c)))) $$ Hrl1
  sl_exec_parts
  have hx2 : ∀ i₁ e₁, shapeCast S512x1024 (View.readAt (Elt F) xagM.view (Rect.unit (s := S3x512x1024) ![2, 0, 0] S1x512x1024.size i₁).toLoadRect ((xagS 2 lt2).view.rep (v.xg 2 c))) e₁
      = shapeCast S512x1024 (v.xg 2 c) shapeCasts_S512x1024_S512x1024 :=
    fun i₁ e₁ => (xag_load 2 lt2 i₁ (v.xg 2 c)).trans (shapeCast_self (v.xg 2 c) shapeCasts_S512x1024_S512x1024).symm
  ihave Hsa' := (sacc_take c 2 lt2 _ sacc_sub2 _) $$ Hsa
  icases Hsa' with ⟨%X, %hs, Hs2, ⟨%fs3, Hsa⟩⟩
  ihave Hst' := (sl_take c 2 lt2 _ sl_sub2 _) $$ Hst
  icases Hst' with ⟨%Y, %hl, Ht2, ⟨%ft3, Hst⟩⟩
  obtain rfl : v.acc 2 c = X := by
    rw [hv.acc2, ← hs]
    symm
    sl_open_run
    refine sacc_read 2 lt2 fs2 (fun h => addf (accH (qOf (v.xg 2 c) (sWqM.view.read (Elt F) fwq)) (kvM.view.read (Elt F) fkv) h) (headOf (v.acc 1 (prv c)) h)) _ _ _ _ _ _ _ _ ?_ ?_ ?_ ?_ ?_ ?_ ?_ ?_ _ _ _ _ _ _ _ _
    all_goals
      simp (disch := decide) only [↓ View.readCov_skip, ↓ View.readCov_cons_toLoadRect, ↓ View.readCov_fill]
      generalize hX : View.readAt (Elt F) (View.whole cc0_scratch0) _ _ = X
      generalize hW : View.readAt (Elt F) (View.whole cc0_stg1_0) _ _ = W
      generalize hR : View.readAt (Elt F) (View.whole cc0_scratch3) _ _ = R
      have hX' := fun e => (congrArg (fun y => shapeCast S512x1024 y e) hX.symm).trans (hx2 (by decide) e)
      have hW' := hW.symm.trans (hw (by decide))
      subst hW'
      sl_open_pay
      simp only [shapeCast_shapeCast, hX']
      subst hR
      refine congrArg (fun z => shapeCast S1x1x512x128 z shapeCasts_S512x128_S1x1x512x128) (congrArg₂ addf ?_ ?_)
      · rfl
      · exact racc_at 1 lt1 _ _ (by decide) (v.acc 1 (prv c)) rfl
  obtain rfl : v.l 2 c = Y := by
    rw [hv.l2, ← hl]
    symm
    sl_open_run
    refine sl_read 2 lt2 ft2 (fun h => addf (lH (qOf (v.xg 2 c) (sWqM.view.read (Elt F) fwq)) (kvM.view.read (Elt F) fkv) h) (headOfL (v.l 1 (prv c)) h)) _ _ _ _ _ _ _ _ ?_ ?_ ?_ ?_ ?_ ?_ ?_ ?_ _ _ _ _ _ _ _ _
    all_goals
      simp (disch := decide) only [↓ View.readCov_skip, ↓ View.readCov_cons_toLoadRect, ↓ View.readCov_fill]
      generalize hX : View.readAt (Elt F) (View.whole cc0_scratch0) _ _ = X
      generalize hW : View.readAt (Elt F) (View.whole cc0_stg1_0) _ _ = W
      generalize hR : View.readAt (Elt F) (View.whole cc0_scratch5) _ _ = R
      have hX' := fun e => (congrArg (fun y => shapeCast S512x1024 y e) hX.symm).trans (hx2 (by decide) e)
      have hW' := hW.symm.trans (hw (by decide))
      subst hW'
      sl_open_pay
      simp only [shapeCast_shapeCast, hX']
      subst hR
      refine congrArg (fun z => shapeCast S1x1x512 z shapeCasts_S512_S1x1x512) (congrArg₂ addf ?_ ?_)
      · rfl
      · exact rl_at 1 lt1 _ _ (by decide) (v.l 1 (prv c)) rfl
  clear hs hl hx2
  ihave Hpa' := (forget c paccM _) $$ Hpa
  icases Hpa' with ⟨%fp3, Hpa⟩
  ihave Hr1 := (Entails.of_eq (racc_piece 0 2 1 lt0 lt2 lt1 (by decide) (by decide) (by decide) c fullShare (v.acc 1 (prv c))).symm) $$ Hr1
  ihave Hrl1 := (Entails.of_eq (rl_piece 0 2 1 lt0 lt2 lt1 (by decide) (by decide) (by decide) c fullShare (v.l 1 (prv c))).symm) $$ Hrl1
  ihave Hx2 := (Entails.of_eq (xag_piece 0 1 2 lt0 lt1 lt2 (by decide) (by decide) (by decide) c fullShare (v.xg 2 c)).symm) $$ Hx2
  iapply (step_send v κ c _ (src := accS saccM 2 lt2) (dst := accS raccM 2 lt2) (v.acc 2 c) 13 16 (by decide) (by decide) (by decide) (by decide) (dev_right c _) rfl rfl NA rfl rfl rfl _
    (BI.Entails.refl _) (by show _ ⊢ piece _ _ _ (v.acc 2 (prv (nxt c))); rw [prv_nxt])) $$ [HO Hs2 Da2 T13]
  · isplitr; · iexact HR
    isplitl [Hs2]; · iexact Hs2
    isplitl [Da2]; · iexact Da2
    isplitl [HO]; · iexact HO
    isplitl [T13]; · iexact T13
    iexact P16
  iintro ⟨C13, HO⟩
  sl_exec_parts
  iapply (step_send v κ c _ (src := lS slM 2 lt2) (dst := lS rlM 2 lt2) (v.l 2 c) 19 22 (by decide) (by decide) (by decide) (by decide) (dev_right c _) rfl rfl NL rfl rfl rfl _
    (BI.Entails.refl _) (by show _ ⊢ piece _ _ _ (v.l 2 (prv (nxt c))); rw [prv_nxt])) $$ [HO Ht2 Dl2 T19]
  · isplitr; · iexact HR
    isplitl [Ht2]; · iexact Ht2
    isplitl [Dl2]; · iexact Dl2
    isplitl [HO]; · iexact HO
    isplitl [T19]; · iexact T19
    iexact P22
  iintro ⟨C19, HO⟩
  sl_exec_parts
  icases R16 with ⟨Rc, Ra⟩
  iapply (step_wait v κ c (src := accS saccM 2) (dst := accS raccM 2) 16 (by decide) (by decide) rfl NA rfl rfl _ (mayWait_copies c _ 9 6 rfl (by decide))) $$ [HO Rc Ra]
  · isplitr; · iexact HR
    isplitl [Rc]; · iexact Rc
    isplitl [HO]; · iexact HO
    isplitr; · iexact Hlev
    iexact Ra
  iintro ⟨HO, A16, Hr2⟩
  ihave Hr2 := (show dmaPay v c 16 ⊢ _ from Entails.of_eq (racc_piece 0 1 2 lt0 lt1 lt2 (by decide) (by decide) (by decide) c fullShare (v.acc 2 (prv c)))) $$ Hr2
  sl_exec_parts
  icases R22 with ⟨Rc, Ra⟩
  iapply (step_wait v κ c (src := lS slM 2) (dst := lS rlM 2) 22 (by decide) (by decide) rfl NL rfl rfl _ (mayWait_copies c _ 9 6 rfl (by decide))) $$ [HO Rc Ra]
  · isplitr; · iexact HR
    isplitl [Rc]; · iexact Rc
    isplitl [HO]; · iexact HO
    isplitr; · iexact Hlev
    iexact Ra
  iintro ⟨HO, A22, Hrl2⟩
  ihave Hrl2 := (show dmaPay v c 22 ⊢ _ from Entails.of_eq (rl_piece 0 1 2 lt0 lt1 lt2 (by decide) (by decide) (by decide) c fullShare (v.l 2 (prv c)))) $$ Hrl2
  sl_exec_parts
  iapply (step_wait v κ c (src := xagS 0) (dst := sXM) 5 (by decide) (by decide) rfl NX rfl rfl _ (mayWait_copies c _ 9 0 rfl (by decide))) $$ [HO C5 A5]
  · isplitr; · iexact HR
    isplitl [C5]; · iexact C5
    isplitl [HO]; · iexact HO
    isplitr; · iexact Hlev
    iexact A5
  iintro ⟨HO, A5, Hxl⟩
  sl_exec_parts
  iapply (step_wait v κ c (src := xagS 1) (dst := xagS 0) 6 (by decide) (by decide) rfl NX rfl rfl _ (mayWait_copies c _ 9 0 rfl (by decide))) $$ [HO C6 A6]
  · isplitr; · iexact HR
    isplitl [C6]; · iexact C6
    isplitl [HO]; · iexact HO
    isplitr; · iexact Hlev
    iexact A6
  iintro ⟨HO, A6, Hx0l⟩
  sl_exec_parts
  iapply (step_wait v κ c (src := accS raccM 0) (dst := accS saccM 0) 11 (by decide) (by decide) rfl NA rfl rfl _ (mayWait_copies c _ 9 0 rfl (by decide))) $$ [HO C11 A11]
  · isplitr; · iexact HR
    isplitl [C11]; · iexact C11
    isplitl [HO]; · iexact HO
    isplitr; · iexact Hlev
    iexact A11
  iintro ⟨HO, A11, Hs0⟩
  sl_exec_parts
  iapply (step_wait v κ c (src := lS rlM 0) (dst := lS slM 0) 17 (by decide) (by decide) rfl NL rfl rfl _ (mayWait_copies c _ 9 0 rfl (by decide))) $$ [HO C17 A17]
  · isplitr; · iexact HR
    isplitl [C17]; · iexact C17
    isplitl [HO]; · iexact HO
    isplitr; · iexact Hlev
    iexact A17
  iintro ⟨HO, A17, Ht0⟩
  sl_exec_parts
  iapply (step_wait v κ c (src := xagS 2) (dst := xagS 1) 7 (by decide) (by decide) rfl NX rfl rfl _ (mayWait_copies c _ 9 0 rfl (by decide))) $$ [HO C7 A7]
  · isplitr; · iexact HR
    isplitl [C7]; · iexact C7
    isplitl [HO]; · iexact HO
    isplitr; · iexact Hlev
    iexact A7
  iintro ⟨HO, A7, Hx1l⟩
  sl_exec_parts
  iapply (step_wait v κ c (src := accS raccM 1) (dst := accS saccM 1) 12 (by decide) (by decide) rfl NA rfl rfl _ (mayWait_copies c _ 9 0 rfl (by decide))) $$ [HO C12 A12]
  · isplitr; · iexact HR
    isplitl [C12]; · iexact C12
    isplitl [HO]; · iexact HO
    isplitr; · iexact Hlev
    iexact A12
  iintro ⟨HO, A12, Hs1⟩
  sl_exec_parts
  iapply (step_wait v κ c (src := lS rlM 1) (dst := lS slM 1) 18 (by decide) (by decide) rfl NL rfl rfl _ (mayWait_copies c _ 9 0 rfl (by decide))) $$ [HO C18 A18]
  · isplitr; · iexact HR
    isplitl [C18]; · iexact C18
    isplitl [HO]; · iexact HO
    isplitr; · iexact Hlev
    iexact A18
  iintro ⟨HO, A18, Ht1⟩
  sl_exec_parts
  iapply (step_wait v κ c (src := accS raccM 2) (dst := accS saccM 2) 13 (by decide) (by decide) rfl NA rfl rfl _ (mayWait_copies c _ 9 0 rfl (by decide))) $$ [HO C13 A13]
  · isplitr; · iexact HR
    isplitl [C13]; · iexact C13
    isplitl [HO]; · iexact HO
    isplitr; · iexact Hlev
    iexact A13
  iintro ⟨HO, A13, Hs2⟩
  sl_exec_parts
  iapply (step_wait v κ c (src := lS rlM 2) (dst := lS slM 2) 19 (by decide) (by decide) rfl NL rfl rfl _ (mayWait_copies c _ 9 0 rfl (by decide))) $$ [HO C19 A19]
  · isplitr; · iexact HR
    isplitl [C19]; · iexact C19
    isplitl [HO]; · iexact HO
    isplitr; · iexact Hlev
    iexact A19
  iintro ⟨HO, A19, Ht2⟩
  sl_exec_parts
  -- the result
  ihave Hout' := (whole_read c outM _) $$ Hout
  icases Hout' with ⟨%O, %ho, Hout⟩
  obtain rfl : outOf (qOf (v.x c) (sWqM.view.read (Elt F) fwq)) (kvM.view.read (Elt F) fkv) (sWoM.view.read (Elt F) fwo) (v.acc 2 (prv c)) (v.l 2 (prv c)) = O := by
    rw [← ho]
    symm
    sl_open_run
    refine (out_read fo _ _).trans ?_
    have r : ∀ (h : Fin 8) (o : Fin 4 → ℕ), o = ![2, h.val, 0, 0] → ∀ i j,
        shapeCast S512x128 (View.readAt (Elt F) raccM.view (Rect.unit (s := S3x8x512x128) o S1x1x512x128.size i).toLoadRect ((accS raccM 2 lt2).view.rep (v.acc 2 (prv c)))) j
          = headOf (v.acc 2 (prv c)) h := fun h o ho i j => racc_at 2 lt2 h o i (v.acc 2 (prv c)) ho
    have rl : ∀ (h : Fin 8) (o : Fin 3 → ℕ), o = ![2, h.val, 0] → ∀ i j,
        shapeCast S512 (View.readAt (Elt F) rlM.view (Rect.unit (s := S3x8x512) o S1x1x512.size i).toLoadRect ((lS rlM 2 lt2).view.rep (v.l 2 (prv c)))) j
          = headOfL (v.l 2 (prv c)) h := fun h o ho i j => rl_at 2 lt2 h o i (v.l 2 (prv c)) ho
    generalize (accS raccM 2 lt2).view.rep (v.acc 2 (prv c)) = fr at r ⊢
    generalize (lS rlM 2 lt2).view.rep (v.l 2 (prv c)) = frl at rl ⊢
    simp (disch := decide) only [↓ View.readCov_skip, ↓ View.readCov_cons_toLoadRect, ↓ View.readCov_fill]
    generalize hX : View.readAt (Elt F) (View.whole cc0_stg0_0) _ _ = X
    generalize hW : View.readAt (Elt F) (View.whole cc0_stg1_0) _ _ = W
    have hX' := hX.symm.trans (x_load (by decide) (v.x c))
    subst hX'
    have hW' := hW.symm.trans (hw (by decide))
    subst hW'
    sl_open_pay
    simp only [shapeCast_shapeCast, r 0 ![2, 0, 0, 0] rfl, r 1 ![2, 1, 0, 0] rfl, r 2 ![2, 2, 0, 0] rfl, r 3 ![2, 3, 0, 0] rfl, r 4 ![2, 4, 0, 0] rfl, r 5 ![2, 5, 0, 0] rfl,
      r 6 ![2, 6, 0, 0] rfl, r 7 ![2, 7, 0, 0] rfl, rl 0 ![2, 0, 0] rfl, rl 1 ![2, 1, 0] rfl, rl 2 ![2, 2, 0] rfl, rl 3 ![2, 3, 0] rfl, rl 4 ![2, 4, 0] rfl, rl 5 ![2, 5, 0] rfl,
      rl 6 ![2, 6, 0] rfl, rl 7 ![2, 7, 0] rfl]
    rfl
  clear ho
  ihave Hxl := (show dmaPay v c 5 ⊢ piece c sXM halfL (v.x c) from BI.Entails.refl _) $$ Hxl
  ihave Hx0l := (show dmaPay v c 6 ⊢ piece c (xagS 0) halfL (v.xg 0 c) from BI.Entails.refl _) $$ Hx0l
  ihave Hx1l := (show dmaPay v c 7 ⊢ piece c (xagS 1) halfL (v.xg 1 c) from BI.Entails.refl _) $$ Hx1l
  ihave Hs0 := (show dmaPay v c 11 ⊢ piece c (accS saccM 0) fullShare (v.acc 0 c) from BI.Entails.refl _) $$ Hs0
  ihave Hs1 := (show dmaPay v c 12 ⊢ piece c (accS saccM 1) fullShare (v.acc 1 c) from BI.Entails.refl _) $$ Hs1
  ihave Hs2 := (show dmaPay v c 13 ⊢ piece c (accS saccM 2) fullShare (v.acc 2 c) from BI.Entails.refl _) $$ Hs2
  ihave Ht0 := (show dmaPay v c 17 ⊢ piece c (lS slM 0) fullShare (v.l 0 c) from BI.Entails.refl _) $$ Ht0
  ihave Ht1 := (show dmaPay v c 18 ⊢ piece c (lS slM 1) fullShare (v.l 1 c) from BI.Entails.refl _) $$ Ht1
  ihave Ht2 := (show dmaPay v c 19 ⊢ piece c (lS slM 2) fullShare (v.l 2 c) from BI.Entails.refl _) $$ Ht2
  rw [wp_ret]
  imod (close_all v κ c) $$ [A5 A6 A7 A8 A9 A10 A11 A12 A13 A14 A15 A16 A17 A18 A19 A20 A21 A22] with Hcl
  · isplitr; · iexact HR
    rw [bigSep_18]
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    isplitl [A17]; · iexact A17
    isplitl [A18]; · iexact A18
    isplitl [A19]; · iexact A19
    isplitl [A20]; · iexact A20
    isplitl [A21]; · iexact A21
    iexact A22
  imod (step_close v κ (barCell c) (bar_mem c)) $$ [Hab] with Hbar
  · isplitr; · iexact HR
    iexact Hab
  imodintro
  iapply Hk
  unfold bodyPost
  isplitl [HO]; · iexact HO
  isplitl [Hxl Hxr]; · iapply (piece_halves c sXM (v.x c)).2; isplitl [Hxl] <;> iassumption
  isplitl [Hwq]; · iexact Hwq
  isplitl [Hwo]; · iexact Hwo
  isplitl [Hkv]; · iexact Hkv
  isplitl [Hout]; · iexact Hout
  isplitl [Hx0l Hx0r Hx1l Hx1r Hx2]
  · iapply (xag_whole c (v.xg 0 c) (v.xg 1 c) (v.xg 2 c))
    isplitl [Hx0l Hx0r]; · isplitl [Hx0l] <;> iassumption
    isplitl [Hx1l Hx1r]; · isplitl [Hx1l] <;> iassumption
    iexact Hx2
  isplitl [Hpa]; · iexists _; iexact Hpa
  isplitl [Hs0 Hs1 Hs2 Hsa]
  · iapply (uncut3 _ _ _ sacc_sub1 sacc_sub2 _ _ _ fs3)
    isplitl [Hs0]; · iexact Hs0
    isplitl [Hs1]; · iexact Hs1
    isplitl [Hs2]; · iexact Hs2
    iexact Hsa
  isplitl [Hr0 Hr1 Hr2]
  · iapply (uncut _ _ racc_sub _ _ _)
    isplitl [Hr0]; · iexact Hr0
    isplitl [Hr1]; · iexact Hr1
    iexact Hr2
  isplitl [Ht0 Ht1 Ht2 Hst]
  · iapply (uncut3 _ _ _ sl_sub1 sl_sub2 _ _ _ ft3)
    isplitl [Ht0]; · iexact Ht0
    isplitl [Ht1]; · iexact Ht1
    isplitl [Ht2]; · iexact Ht2
    iexact Hst
  isplitl [Hrl0 Hrl1 Hrl2]
  · iapply (uncut _ _ rl_sub _ _ _)
    isplitl [Hrl0]; · iexact Hrl0
    isplitl [Hrl1]; · iexact Hrl1
    iexact Hrl2
  isplitl [Hbar]; · iexact Hbar
  iexact Hcl

end Cert.KernelIdealProof
-- ==== Proof.KI.Data.lean ====
module

public import proofs.«01_k».proof.Proof.KI.Body
public import proofs.«01_k».proof.Proof.Gen.KernelIdeal.Frame
public import Idealize.ShloMosaic.Lib.Pipeline.RegionTalk
public import Idealize.ShloMosaic.Lib.Pipeline.ValueKit

@[expose] public section

noncomputable section

/-! # The kernel's region on one device: what its windows hold, and its body between the launch's state and the run's end -/

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]
variable (m : (ℓ : Loc nD τ sig) → Buf (Elt F) ℓ)
local notation "𝕄" => MT nD τ sig Unit (Elt F) ℕ UU ℕ

/-! ## The values -/

/-- Device `c`'s block of `x`, as the region finds it. -/
abbrev xAt (c : Dev nD) : S512x1024.Idx → Elt F .bf16 := V m c main_v1
abbrev wqAt (c : Dev nD) : S1024x1024.Idx → Elt F .bf16 := V m c main_arg1
abbrev woAt (c : Dev nD) : S1024x1024.Idx → Elt F .bf16 := V m c main_arg4
/-- Device `c`'s keys and values, one above the other. -/
abbrev kvAt (c : Dev nD) : S2x8x2048x128.Idx → Elt F .bf16 := V m c main_v7

/-- The queries device `c` works on in hop `k`: those of the device `k + 1` places before it. -/
abbrev qAt (k : ℕ) (c : Dev nD) := qOf (xAt m (prv^[k + 1] c)) (wqAt m c)

/-- The weighted sums device `c` passes on in hop `k`. -/
def accAt : ℕ → Dev nD → S8x512x128.Idx → Elt F .f32
  | 0, c => sendAcc (qAt m 0 c) (kvAt m c)
  | k + 1, c => passAcc (qAt m (k + 1) c) (kvAt m c) (accAt k (prv c))

/-- The row sums device `c` passes on in hop `k`. -/
def lAt : ℕ → Dev nD → S8x512.Idx → Elt F .f32
  | 0, c => sendL (qAt m 0 c) (kvAt m c)
  | k + 1, c => passL (qAt m (k + 1) c) (kvAt m c) (lAt k (prv c))

/-- All the kernel's transfers carry. -/
def vals : Vals F := ⟨xAt m, accAt m, lAt m⟩

theorem carries (c : Dev nD) : Carries (vals m) c (wqAt m c) (kvAt m c) := ⟨rfl, rfl, rfl, rfl, rfl, rfl⟩

/-- Device `c`'s result. -/
def outAt (c : Dev nD) : S512x1024.Idx → Elt F .f32 :=
  outOf (qOf (xAt m c) (wqAt m c)) (kvAt m c) (woAt m c) (accAt m 2 (prv c)) (lAt m 2 (prv c))

/-! ## What the region enters with and leaves -/

/-- A token of the launch: the two duties of a barrier cell, the one of each transfer semaphore. -/
abbrev tk (k : Fin 20) : SemLoc sig × Bool :=
  if k.val = 0 then (.reg barS, true) else if k.val = 1 then (.reg barS, false) else (.dma (⟨3 + k.val, by omega⟩ : Fin 23), false)

/-- On which device lies the cell whose `k`th duty this device pays: a barrier's first duty the left one's, its second and an
    arrival the right one's, a departure its own. -/
def pay (k : Fin 20) : Dev nD ≃ Dev nD :=
  if k.val = 0 then ring.symm else if (k.val + 1) / 3 % 2 = 0 then ring else Equiv.refl _

/-- The tokens of the duties device `c` pays. -/
def paid (c : Dev nD) : sProp 𝕄 :=
  bigSep Finset.univ fun k : Fin 20 => dutyTok ER ((pay k c : Thread nD τ), (tk k).1) 0 (tk k).2

theorem paid_eq (c : Dev nD) : (paid c : sProp 𝕄) = iprop(dutyTok ER (barCell (prv c)) 0 true ∗ dutyTok ER (barCell (nxt c)) 0 false
    ∗ dutyTok ER (dcell c 5) 0 false ∗ dutyTok ER (dcell c 6) 0 false ∗ dutyTok ER (dcell c 7) 0 false
    ∗ dutyTok ER (dcell (nxt c) 8) 0 false ∗ dutyTok ER (dcell (nxt c) 9) 0 false ∗ dutyTok ER (dcell (nxt c) 10) 0 false
    ∗ dutyTok ER (dcell c 11) 0 false ∗ dutyTok ER (dcell c 12) 0 false ∗ dutyTok ER (dcell c 13) 0 false
    ∗ dutyTok ER (dcell (nxt c) 14) 0 false ∗ dutyTok ER (dcell (nxt c) 15) 0 false ∗ dutyTok ER (dcell (nxt c) 16) 0 false
    ∗ dutyTok ER (dcell c 17) 0 false ∗ dutyTok ER (dcell c 18) 0 false ∗ dutyTok ER (dcell c 19) 0 false
    ∗ dutyTok ER (dcell (nxt c) 20) 0 false ∗ dutyTok ER (dcell (nxt c) 21) 0 false ∗ dutyTok ER (dcell (nxt c) 22) 0 false) := by
  unfold paid
  rw [bigSep_univ_eq_bigSepL [0, 1, 2, 3, 4, 5, 6, 7, 8, 9, 10, 11, 12, 13, 14, 15, 16, 17, 18, 19] (by decide) (by decide)]
  rfl

/-- The arrivals a device waits for, as it is owed them at launch. -/
abbrev due (k : Fin 10) : SemLoc sig × ℕ := match k with
  | 0 => (.reg barS, 2)
  | 1 => (.dma (⟨8, by decide⟩ : Fin 23), NX) | 2 => (.dma (⟨9, by decide⟩ : Fin 23), NX) | 3 => (.dma (⟨10, by decide⟩ : Fin 23), NX)
  | 4 => (.dma (⟨14, by decide⟩ : Fin 23), NA) | 5 => (.dma (⟨15, by decide⟩ : Fin 23), NA) | 6 => (.dma (⟨16, by decide⟩ : Fin 23), NA)
  | 7 => (.dma (⟨20, by decide⟩ : Fin 23), NL) | 8 => (.dma (⟨21, by decide⟩ : Fin 23), NL) | 9 => (.dma (⟨22, by decide⟩ : Fin 23), NL)

/-- Device `c`'s credit for them. -/
def credits (c : Dev nD) : sProp 𝕄 :=
  bigSep Finset.univ fun k : Fin 10 => cred (tallyAt ((c : Thread nD τ), (due k).1) () (due k).2)

theorem credits_eq (c : Dev nD) : (credits c : sProp 𝕄) = iprop(cred (tallyAt (barCell c) () 2)
    ∗ cred (tallyAt (dcell c 8) () NX) ∗ cred (tallyAt (dcell c 9) () NX) ∗ cred (tallyAt (dcell c 10) () NX)
    ∗ cred (tallyAt (dcell c 14) () NA) ∗ cred (tallyAt (dcell c 15) () NA) ∗ cred (tallyAt (dcell c 16) () NA)
    ∗ cred (tallyAt (dcell c 20) () NL) ∗ cred (tallyAt (dcell c 21) () NL) ∗ cred (tallyAt (dcell c 22) () NL)) := by
  unfold credits
  rw [bigSep_univ_eq_bigSepL [0, 1, 2, 3, 4, 5, 6, 7, 8, 9] (by decide) (by decide)]
  rfl

theorem opened_eq (c : Dev nD) :
    (bigSep Finset.univ (fun k : Fin 18 => iprop(atPos ER ((c : Thread nD τ), osem k) 0 ∅ 0 ∗ reached ER ((c : Thread nD τ), osem k) 0)) : sProp 𝕄)
      = iprop((atPos ER (dcell c 5) 0 ∅ 0 ∗ reached ER (dcell c 5) 0) ∗ (atPos ER (dcell c 6) 0 ∅ 0 ∗ reached ER (dcell c 6) 0) ∗ (atPos ER (dcell c 7) 0 ∅ 0 ∗ reached ER (dcell c 7) 0)
        ∗ (atPos ER (dcell c 8) 0 ∅ 0 ∗ reached ER (dcell c 8) 0) ∗ (atPos ER (dcell c 9) 0 ∅ 0 ∗ reached ER (dcell c 9) 0) ∗ (atPos ER (dcell c 10) 0 ∅ 0 ∗ reached ER (dcell c 10) 0)
        ∗ (atPos ER (dcell c 11) 0 ∅ 0 ∗ reached ER (dcell c 11) 0) ∗ (atPos ER (dcell c 12) 0 ∅ 0 ∗ reached ER (dcell c 12) 0) ∗ (atPos ER (dcell c 13) 0 ∅ 0 ∗ reached ER (dcell c 13) 0)
        ∗ (atPos ER (dcell c 14) 0 ∅ 0 ∗ reached ER (dcell c 14) 0) ∗ (atPos ER (dcell c 15) 0 ∅ 0 ∗ reached ER (dcell c 15) 0) ∗ (atPos ER (dcell c 16) 0 ∅ 0 ∗ reached ER (dcell c 16) 0)
        ∗ (atPos ER (dcell c 17) 0 ∅ 0 ∗ reached ER (dcell c 17) 0) ∗ (atPos ER (dcell c 18) 0 ∅ 0 ∗ reached ER (dcell c 18) 0) ∗ (atPos ER (dcell c 19) 0 ∅ 0 ∗ reached ER (dcell c 19) 0)
        ∗ (atPos ER (dcell c 20) 0 ∅ 0 ∗ reached ER (dcell c 20) 0) ∗ (atPos ER (dcell c 21) 0 ∅ 0 ∗ reached ER (dcell c 21) 0) ∗ (atPos ER (dcell c 22) 0 ∅ 0 ∗ reached ER (dcell c 22) 0)) := by
  rw [bigSep_18]
  rfl

/-- What a device takes from the launch to the region: the cells' invariants, its barrier position, its rights to open its
    transfer semaphores, the tokens it pays with and its credit. -/
def start (c : Dev nD) : sProp 𝕄 :=
  iprop(∃ κ, records (vals m) κ ∗ atPos ER (barCell c) 0 ∅ 0 ∗ (bigSep Finset.univ fun k : Fin 18 => openTok ER ((c : Thread nD τ), osem k))
    ∗ paid c ∗ credits c)

/-- The same inside the region, its transfer semaphores opened. -/
def inside (c : Dev nD) : sProp 𝕄 :=
  iprop(∃ κ, records (vals m) κ ∗ levAts L lv ∗ atPos ER (barCell c) 0 ∅ 0
    ∗ (bigSep Finset.univ fun k : Fin 18 => iprop(atPos ER ((c : Thread nD τ), osem k) 0 ∅ 0 ∗ reached ER ((c : Thread nD τ), osem k) 0))
    ∗ paid c ∗ credits c)

/-- Two families over one index, as one family of pairs. -/
theorem pair {ι : Type} [Fintype ι] {Φ Ψ : ι → sProp 𝕄} :
    iprop(bigSep Finset.univ Φ ∗ bigSep Finset.univ Ψ) ⊢ bigSep Finset.univ (fun i => iprop(Φ i ∗ Ψ i)) :=
  Entails.of_eq (BI.bigSep_sep _ _ _).symm

theorem start_open (c : Dev nD) :
    iprop(start m c ∗ Pipeline.ownSems0 osem c ∗ levAts L lv) ⊢ (|={Set.univ}=> inside m c : sProp 𝕄) := by
  unfold start inside
  iintro ⟨⟨%κ, #HR, Hb, Ho, Hp, Hc⟩, Hs, #HL⟩
  imod (open_all (vals m) κ c) $$ [Ho Hs] with Ha
  · isplitr; · iexact HR
    iapply pair
    isplitl [Ho]; · iexact Ho
    iapply (show (Pipeline.ownSems0 osem c : sProp 𝕄) ⊢ bigSep Finset.univ fun k : Fin 18 => semVal ((c : Thread nD τ), osem k) 0 from BI.Entails.refl _) $$ Hs
  imodintro
  iexists κ
  isplitr; · iexact HR
  isplitr; · iexact HL
  isplitl [Hb]; · iexact Hb
  isplitl [Ha]; · iexact Ha
  isplitl [Hp] <;> iassumption

/-- The scratch buffers, each whole at contents not named. -/
def scratch (c : Dev nD) : sProp 𝕄 :=
  iprop((∃ f, held c xagM f) ∗ (∃ f, held c paccM f) ∗ (∃ f, held c saccM f) ∗ (∃ f, held c raccM f) ∗ (∃ f, held c slM f) ∗ (∃ f, held c rlM f))

theorem scratch_eq (c : Dev nD) : (Pipeline.scopedRest spec0 c : sProp 𝕄) = scratch c := scopedRest0_eq c

/-- What a device has between the region's entry and its body. -/
def before (c : Dev nD) : sProp 𝕄 := iprop(inside m c ∗ scratch c ∗ ∃ r, prngReg c r)

/-- What it has between the body and the region's exit. -/
def afterBody (c : Dev nD) : sProp 𝕄 := iprop(semVal (barCell c) 0 ∗ Pipeline.ownSems0 osem c ∗ scratch c ∗ ∃ r, prngReg c r)

/-- The region's data on device `c`: the arrays as the host operations left them; the body leaves every input as it was and the
    result in the last window. -/
def dat (c : Dev nD) : Pipeline.Dat τ (Elt F) Unit ℕ UU ℕ cfg0 c where
  A w := V m c (Pipeline.arrRef spec0 w)
  after w _ := match w with
    | ⟨0, _⟩ => xAt m c
    | ⟨1, _⟩ => wqAt m c
    | ⟨2, _⟩ => woAt m c
    | ⟨3, _⟩ => kvAt m c
    | ⟨4, _⟩ => outAt m c
  Φ t := if t.val = 0 then before m c else afterBody c
  q _ := fullShare
  owed t := if t.val = 0 then tally (oweList c) else 0

theorem block_x (c : Dev nD) (t : Fin cfg0.N) (d) : ((dat m c).before 0 t d : S512x1024.Idx → Elt F .bf16) = xAt m c := by
  unfold Pipeline.Dat.before
  rw [if_pos (fetch0_0 t)]
  funext j
  obtain rfl := fin_N0 t
  show iblk m c 0 t0_0 j = _
  unfold iblk
  blk_simp
  refine congrArg (V m c main_v1) (funext fun a => Fin.ext ?_)
  blk_simp
  rw [Nat.add_eq_right]
  exact (by decide +kernel : ∀ a, win0_0.index t0_0 a * win0_0.size a = 0) a

theorem block_wq (c : Dev nD) (t : Fin cfg0.N) (d) : ((dat m c).before 1 t d : S1024x1024.Idx → Elt F .bf16) = wqAt m c := by
  unfold Pipeline.Dat.before
  rw [if_pos (fetch0_1 t)]
  funext j
  obtain rfl := fin_N0 t
  show iblk m c 1 t0_0 j = _
  unfold iblk
  blk_simp
  refine congrArg (V m c main_arg1) (funext fun a => Fin.ext ?_)
  blk_simp
  rw [Nat.add_eq_right]
  exact (by decide +kernel : ∀ a, win0_1.index t0_0 a * win0_1.size a = 0) a

theorem block_wo (c : Dev nD) (t : Fin cfg0.N) (d) : ((dat m c).before 2 t d : S1024x1024.Idx → Elt F .bf16) = woAt m c := by
  unfold Pipeline.Dat.before
  rw [if_pos (fetch0_2 t)]
  funext j
  obtain rfl := fin_N0 t
  show iblk m c 2 t0_0 j = _
  unfold iblk
  blk_simp
  refine congrArg (V m c main_arg4) (funext fun a => Fin.ext ?_)
  blk_simp
  rw [Nat.add_eq_right]
  exact (by decide +kernel : ∀ a, win0_2.index t0_0 a * win0_2.size a = 0) a

theorem block_kv (c : Dev nD) (t : Fin cfg0.N) (d) : ((dat m c).before 3 t d : S2x8x2048x128.Idx → Elt F .bf16) = kvAt m c := by
  unfold Pipeline.Dat.before
  rw [if_pos (fetch0_3 t)]
  funext j
  obtain rfl := fin_N0 t
  show iblk m c 3 t0_0 j = _
  unfold iblk
  blk_simp
  refine congrArg (V m c main_v7) (funext fun a => Fin.ext ?_)
  blk_simp
  rw [Nat.add_eq_right]
  exact (by decide +kernel : ∀ a, win0_3.index t0_0 a * win0_3.size a = 0) a

/-- A staged buffer's contents as the buffer held whole, and back. -/
theorem open_owns (c : Dev nD) {s : Shape} {e : EltTy} (M : Memref sig .tc .vmem s e) (hM : M.IsWhole) (X : s.Idx → Elt F e) :
    (owns (c : Thread nD τ) M fullShare X : sProp 𝕄) ⊢ iprop(∃ f, ⌜M.view.read (Elt F) f = X⌝ ∗ held c M f) := by
  unfold owns held
  rw [hM.set_eq_univ]
theorem close_owns (c : Dev nD) {s : Shape} {e : EltTy} (M : Memref sig .tc .vmem s e) (hM : M.IsWhole) (X : s.Idx → Elt F e)
    (f : Buf (Elt F) (M.view.loc (c : Thread nD τ))) (h : M.view.read (Elt F) f = X) : held c M f ⊢ (owns (c : Thread nD τ) M fullShare X : sProp 𝕄) := by
  unfold owns held
  rw [hM.set_eq_univ]
  iintro H
  iexists f
  isplitr; · ipureintro; exact h
  iexact H
/-- The staged block of `x` in two halves, and back. -/
theorem halve_owns (c : Dev nD) {s : Shape} {e : EltTy} (M : Memref sig .tc .vmem s e) (X : s.Idx → Elt F e) :
    (owns (c : Thread nD τ) M fullShare X : sProp 𝕄) ⊢ iprop(piece c M halfL X ∗ piece c M halfR X) := by
  refine (show _ ⊢ piece c M fullShare X from ?_).trans (piece_halves c M X).1
  unfold owns
  iintro ⟨%f, %h, H⟩
  iapply (pointsTo_rep_of_read (c : Thread nD τ) M f fullShare X h) $$ H
theorem piece_owns (c : Dev nD) {s : Shape} {e : EltTy} (M : Memref sig .tc .vmem s e) (X : s.Idx → Elt F e) :
    piece c M fullShare X ⊢ (owns (c : Thread nD τ) M fullShare X : sProp 𝕄) := by
  unfold owns
  iintro H
  iexists _
  isplitr; · ipureintro; exact M.view.read_rep X
  iexact H

theorem owesAt_intro (c : Dev nD) (t : Fin (cfg0.N + 1)) (O : CellTallies nD τ sig Unit) (h : (dat m c).owed t = O) :
    (owing c O : sProp 𝕄) ⊢ (dat m c).owesAt () t := by
  unfold owing Pipeline.Dat.owesAt Pipeline.owesWithin Pipeline.Dat.bound
  rw [h]
  iintro ⟨%W, H⟩
  iexists W
  isplitr; · ipureintro; exact fun _ _ => Or.inl trivial
  iexact H
theorem owesAt_elim (c : Dev nD) (t : Fin (cfg0.N + 1)) (O : CellTallies nD τ sig Unit) (h : (dat m c).owed t = O) :
    ((dat m c).owesAt () t : sProp 𝕄) ⊢ owing c O := by
  unfold owing Pipeline.Dat.owesAt Pipeline.owesWithin Pipeline.Dat.bound
  rw [h]
  iintro ⟨%W, -, H⟩
  iexists W
  iexact H

set_option maxHeartbeats 800000 in
set_option maxRecDepth 65536 in
/-- The body, from what the launch and the pipeline hand it to what they take back. -/
theorem body_ob (c : Dev nD) : Pipeline.BodyObligation (dat m c) defs₀ 𝒱₀ () Set.univ := fun t => by
  obtain rfl := fin_N0 t
  simp only [bigSep_W0]
  rw [show (dat m c).Φ t0_0.castSucc = before m c from rfl, show (dat m c).Φ t0_0.succ = afterBody c from rfl]
  show _ ⊢ wp frame (wpE defs₀ 𝒱₀ (c : Thread nD τ) none) Set.univ (bodyAt0 t0_0) _
  unfold before inside scratch
  rw [paid_eq, credits_eq, opened_eq]
  iintro ⟨⟨⟨%κ, #HR, #HL, Hab, ⟨⟨A5, #P5⟩, ⟨A6, #P6⟩, ⟨A7, #P7⟩, ⟨A8, #P8⟩, ⟨A9, #P9⟩, ⟨A10, #P10⟩, ⟨A11, #P11⟩, ⟨A12, #P12⟩, ⟨A13, #P13⟩,
      ⟨A14, #P14⟩, ⟨A15, #P15⟩, ⟨A16, #P16⟩, ⟨A17, #P17⟩, ⟨A18, #P18⟩, ⟨A19, #P19⟩, ⟨A20, #P20⟩, ⟨A21, #P21⟩, ⟨A22, #P22⟩⟩,
    ⟨Dl, Dr, D5, D6, D7, D8, D9, D10, D11, D12, D13, D14, D15, D16, D17, D18, D19, D20, D21, D22⟩,
    ⟨Cb, C8, C9, C10, C14, C15, C16, C20, C21, C22⟩⟩, ⟨⟨%f0, S0⟩, ⟨%f1, S1⟩, ⟨%f2, S2⟩, ⟨%f3, S3⟩, ⟨%f4, S4⟩, ⟨%f5, S5⟩⟩, Hprng⟩, HO,
    ⟨%d0, W0⟩, ⟨%d1, W1⟩, ⟨%d2, W2⟩, ⟨%d3, W3⟩, ⟨%d4, W4⟩⟩
  ihave HO' := (owesAt_elim m c t0_0.castSucc (tally (oweList c)) rfl) $$ HO
  rw [block_x m c t0_0 d0]
  ihave Hx := (halve_owns c sXM _) $$ W0
  ihave Hq := (open_owns c sWqM (Memref.isWhole_whole _) _) $$ W1
  icases Hq with ⟨%fwq, %hwq, Hq⟩
  ihave Hw := (open_owns c sWoM (Memref.isWhole_whole _) _) $$ W2
  icases Hw with ⟨%fwo, %hwo, Hw⟩
  ihave Hk := (open_owns c kvM (Memref.isWhole_whole _) _) $$ W3
  icases Hk with ⟨%fkv, %hkv, Hk⟩
  ihave Ho := (open_owns c outM (Memref.isWhole_whole _) _) $$ W4
  icases Ho with ⟨%fo, -, Ho⟩
  ihave Hs0 := (xag_cut c f0) $$ S0
  ihave Hs3 := (racc_cut c f3) $$ S3
  ihave Hs5 := (rl_cut c f5) $$ S5
  icases Hs0 with ⟨X0, X1, X2⟩
  icases Hs3 with ⟨Y0, Y1, Y2⟩
  icases Hs5 with ⟨Z0, Z1, Z2⟩
  rw [block_wq] at hwq
  rw [block_wo] at hwo
  rw [block_kv] at hkv
  iapply (sound_body (vals m) κ c _ fwq fwo fkv fo f1 f2 f4 (by rw [hwq, hkv]; exact carries m c))
  unfold sendTok rcv slots opens
  isplitr; · iexact HR
  isplitr; · iexact HL
  isplitl [HO']; · iexact HO'
  isplitl [Hx]; · iexact Hx
  isplitl [Hq]; · iexact Hq
  isplitl [Hw]; · iexact Hw
  isplitl [Hk]; · iexact Hk
  isplitl [Ho]; · iexact Ho
  isplitl [S1]; · iexact S1
  isplitl [S2]; · iexact S2
  isplitl [S4]; · iexact S4
  isplitl [Dl X0 X1 X2 Y0 Y1 Y2 Z0 Z1 Z2]
  · isplitl [Dl]; · iexact Dl
    isplitl [X0 X1 X2 Y0 Y1 Y2 Z0 Z1 Z2]
    · isplitl [X0]; · iexact X0
      isplitl [X1]; · iexact X1
      isplitl [X2]; · iexact X2
      isplitl [Y0]; · iexact Y0
      isplitl [Y1]; · iexact Y1
      isplitl [Y2]; · iexact Y2
      isplitl [Z0]; · iexact Z0
      isplitl [Z1]; · iexact Z1
      iexact Z2
    isplitr; · iexact P8
    isplitr; · iexact P9
    isplitr; · iexact P10
    isplitr; · iexact P14
    isplitr; · iexact P15
    isplitr; · iexact P16
    isplitr; · iexact P20
    isplitr; · iexact P21
    iexact P22
  isplitl [Dr]; · iexact Dr
  isplitl [Cb Hab]
  · isplitl [Cb]; · iexact Cb
    iexact Hab
  isplitl [D5 D8 D6 D9 D11 D14 D17 D20 D7 D10 D12 D15 D18 D21 D13 D16 D19 D22]
  · isplitl [D5 D8]
    · isplitl [D5]; · iexact D5
      isplitr; · iexact P5
      iexact D8
    isplitl [D6 D9]
    · isplitl [D6]; · iexact D6
      isplitr; · iexact P6
      iexact D9
    isplitl [D11 D14]
    · isplitl [D11]; · iexact D11
      isplitr; · iexact P11
      iexact D14
    isplitl [D17 D20]
    · isplitl [D17]; · iexact D17
      isplitr; · iexact P17
      iexact D20
    isplitl [D7 D10]
    · isplitl [D7]; · iexact D7
      isplitr; · iexact P7
      iexact D10
    isplitl [D12 D15]
    · isplitl [D12]; · iexact D12
      isplitr; · iexact P12
      iexact D15
    isplitl [D18 D21]
    · isplitl [D18]; · iexact D18
      isplitr; · iexact P18
      iexact D21
    isplitl [D13 D16]
    · isplitl [D13]; · iexact D13
      isplitr; · iexact P13
      iexact D16
    isplitl [D19]; · iexact D19
    isplitr; · iexact P19
    iexact D22
  isplitl [C8 A8 C9 A9 C14 A14 C20 A20 C10 A10 C15 A15 C21 A21 C16 A16 C22 A22]
  · isplitl [C8 A8]
    · isplitl [C8]; · iexact C8
      iexact A8
    isplitl [C9 A9]
    · isplitl [C9]; · iexact C9
      iexact A9
    isplitl [C14 A14]
    · isplitl [C14]; · iexact C14
      iexact A14
    isplitl [C20 A20]
    · isplitl [C20]; · iexact C20
      iexact A20
    isplitl [C10 A10]
    · isplitl [C10]; · iexact C10
      iexact A10
    isplitl [C15 A15]
    · isplitl [C15]; · iexact C15
      iexact A15
    isplitl [C21 A21]
    · isplitl [C21]; · iexact C21
      iexact A21
    isplitl [C16 A16]
    · isplitl [C16]; · iexact C16
      iexact A16
    isplitl [C22]; · iexact C22
    iexact A22
  isplitl [A5 A6 A11 A17 A7 A12 A18 A13 A19]
  · isplitl [A5]; · iexact A5
    isplitl [A6]; · iexact A6
    isplitl [A11]; · iexact A11
    isplitl [A17]; · iexact A17
    isplitl [A7]; · iexact A7
    isplitl [A12]; · iexact A12
    isplitl [A18]; · iexact A18
    isplitl [A13]; · iexact A13
    iexact A19
  unfold bodyPost
  iintro ⟨HO, Hx, Hq, Hw, Hk, ⟨%f, %hf, Ho⟩, S0, S1, S2, S3, S4, S5, Hb, Hs⟩
  unfold afterBody scratch
  isplitl [S0 S1 S2 S3 S4 S5 Hb Hs Hprng]
  · isplitl [Hb]; · iexact Hb
    isplitl [Hs]; · iapply (show bigSep Finset.univ (fun k : Fin 18 => semVal ((c : Thread nD τ), osem k) 0) ⊢ (Pipeline.ownSems0 osem c : sProp 𝕄) from BI.Entails.refl _) $$ Hs
    isplitr [Hprng]
    · isplitl [S0]; · iexact S0
      isplitl [S1]; · iexact S1
      isplitl [S2]; · iexact S2
      isplitl [S3]; · iexact S3
      isplitl [S4]; · iexact S4
      iexact S5
    iexact Hprng
  isplitl [HO]; · iapply (owesAt_intro m c t0_0.succ 0 rfl) $$ HO
  isplitl [Hx]; · iapply (piece_owns c sXM ((vals m).x c)) $$ Hx
  isplitl [Hq]; · iapply (close_owns c sWqM (Memref.isWhole_whole _) (wqAt m c) fwq hwq) $$ Hq
  isplitl [Hw]; · iapply (close_owns c sWoM (Memref.isWhole_whole _) (woAt m c) fwo hwo) $$ Hw
  isplitl [Hk]; · iapply (close_owns c kvM (Memref.isWhole_whole _) (kvAt m c) fkv hkv) $$ Hk
  iapply (close_owns c outM (Memref.isWhole_whole _) (outAt m c) f (by rw [hf, hwq, hwo, hkv]; rfl)) $$ Ho

theorem arr_out (c : Dev nD) : (dat m c).arrAt 4 cfg0.N = outAt m c := by
  refine (dat m c).arrAt_eq_of_after_last 4 t0_0 (by decide +kernel) _ fun j => ?_
  blk_simp
  rfl

end Cert.KernelIdealProof
-- ==== Proof.KI.Launch.lean ====
module

public import proofs.«01_k».proof.Proof.KI.Data

@[expose] public section

noncomputable section

/-! # The kernel's program on four devices: its launch, its run, and what memory holds afterwards -/

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]
variable (m : (ℓ : Loc nD τ sig) → Buf (Elt F) ℓ) (ρ : Dev nD → PrngReg)
local notation "𝕄" => MT nD τ sig Unit (Elt F) ℕ UU ℕ

/-! ## The states between the segments -/

abbrev adm : (p : Fin 1) → (pcfgs (F := F) p).Adm := fun p => (cfgs p).toPCfg_adm
abbrev pdats : (p : Fin 1) → (c : Dev nD) → Pipeline.Dat τ (Elt F) Unit ℕ UU ℕ (Pipeline.pin (pcfgs (F := F)) adm p) c
  | ⟨0, _⟩ => fun c => dat m c

/-- The buffers the launch hands over; those of them the region's windows do not stage. -/
abbrev bufs : Finset (DevRef τ sig) := Pipeline.ucRefs τ sig
abbrev arrs : Finset (DevRef τ sig) := Pipeline.arrRefs (τ := τ) spec0
abbrev others : Finset (DevRef τ sig) := bufs \ arrs

/-- What a device's buffers hold: at launch; when the region is entered; when it is left; at the end. -/
abbrev VL (c : Dev nD) : Valuation τ sig (Elt F) := fun b => m (c, b)
abbrev VI (c : Dev nD) : Valuation τ sig (Elt F) := StableHlo.after hostOps0 (VL m c)
abbrev VO (c : Dev nD) : Valuation τ sig (Elt F) := Function.update (VI m c) (Proc.devRef .tc main_v8) (outAt m c)
abbrev VE (c : Dev nD) : Valuation τ sig (Elt F) := StableHlo.after hostOps1 (VO m c)

abbrev owed (c : Dev nD) : CellTallies nD τ sig Unit := tally (oweList c)

def preR (c : Dev nD) : sProp 𝕄 := iprop(start m c ∗ (∃ r, prngReg c r) ∗ owing c (owed c))
def postR (c : Dev nD) : sProp 𝕄 := iprop(semVal (barCell c) 0 ∗ owing c 0)

theorem arrs_sub : arrs ⊆ bufs := by decide

theorem hostIn_sub : ∀ op ∈ (hostOps0 (F := F)), op.bufs ⊆ bufs := fun op h => Pipeline.sub_ucRefs op (List.forall_iff_forall_mem.mp hostOps0_sub op h)
theorem hostOut_sub : ∀ op ∈ (hostOps1 (F := F)), op.bufs ⊆ bufs := fun op h => Pipeline.sub_ucRefs op
  (List.forall_iff_forall_mem.mp (show List.Forall (fun op : HloOp τ sig (Elt F) => op.bufs ⊆ StableHlo.tcRefs τ sig) hostOps1 from hostOps1_sub) op h)

def segIn : Pipeline.HostSeg (Name := ℕ) (U := UU) (pcfgs (F := F)) defs₀ 𝒱₀ L lv :=
  Pipeline.HostSeg.ofOps _ _ _ _ _ bufs hostOps0 hostIn_sub (List.forall_iff_forall_mem.mp hostOps0_fresh) (VL m) (preR m)
def segOut : Pipeline.HostSeg (Name := ℕ) (U := UU) (pcfgs (F := F)) defs₀ 𝒱₀ L lv :=
  Pipeline.HostSeg.ofOps _ _ _ _ _ bufs hostOps1 hostOut_sub (List.forall_iff_forall_mem.mp hostOps1_fresh) (VO m) postR

/-! ## The region -/

theorem owed_levels (c : Dev nD) (t : Fin (cfg0.N + 1)) (g : GSem nD τ sig) (i : Unit) (h : 0 < (dat m c).owed t g i) : i ∈ L g ∧ 0 < lv g i := by
  have e : (dat m c).owed t = if t.val = 0 then owed c else 0 := rfl
  rw [e] at h
  split at h
  · obtain ⟨p, hp, rfl⟩ := tally_pos h
    have hq : p.1.1.2 = .tc ∧ 0 < lv p.1 () := by
      simp only [oweList, copyList, List.mem_cons, List.not_mem_nil, or_false] at hp
      rcases hp with rfl | rfl | rfl | rfl | rfl | rfl | rfl | rfl | rfl | rfl | rfl <;> exact ⟨rfl, Nat.succ_pos _⟩
    exact ⟨by unfold L; rw [if_pos hq.1]; exact Finset.mem_singleton_self _, hq.2⟩
  · exact absurd h (Nat.lt_irrefl 0)

theorem held_none (c : Dev nD) (W : Valuation τ sig (Elt F)) : (StableHlo.held (c : Thread nD τ) ∅ W : sProp 𝕄) = BI.emp := BI.bigSep_empty

theorem enter (c : Dev nD) :
    iprop(Pipeline.scopedRest spec0 c ∗ (∃ r, prngReg c r) ∗ StableHlo.held (c : Thread nD τ) ∅ (VI m c) ∗ inside m c) ⊢ (before m c : sProp 𝕄) := by
  rw [scratch_eq]
  unfold before
  iintro ⟨Hs, Hp, -, Hi⟩
  isplitl [Hi]; · iexact Hi
  isplitl [Hs] <;> iassumption

theorem leave (c : Dev nD) :
    (afterBody c : sProp 𝕄) ⊢ iprop(Pipeline.scopedRest spec0 c ∗ (∃ r, prngReg c r) ∗ StableHlo.held (c : Thread nD τ) ∅ (VO m c)
      ∗ Pipeline.ownSems0 osem c ∗ semVal (barCell c) 0) := by
  rw [scratch_eq, held_none]
  unfold afterBody
  iintro ⟨Hb, Ho, Hs, Hp⟩
  isplitl [Hs]; · iexact Hs
  isplitl [Hp]; · iexact Hp
  isplitr; · iempintro
  isplitl [Ho] <;> iassumption

theorem kit : Pipeline.PLaunchFacts (nD := nD) (τ := τ) (pcfgs (F := F)) 0 := launch0.toP

theorem arrays_after (c : Dev nD) (w : Fin 5) : (dat m c).arrAt w cfg0.N = VO m c (Proc.devRef .tc (Pipeline.arrRef spec0 w)) := by
  match w with
  | ⟨0, _⟩ => exact ((dat m c).arrAt_in 0 rfl _).trans (Function.update_of_ne (show (Proc.devRef .tc main_v1 : DevRef τ sig) ≠ Proc.devRef .tc main_v8 by decide) (outAt m c) (VI m c)).symm
  | ⟨1, _⟩ => exact ((dat m c).arrAt_in 1 rfl _).trans (Function.update_of_ne (show (Proc.devRef .tc main_arg1 : DevRef τ sig) ≠ Proc.devRef .tc main_v8 by decide) (outAt m c) (VI m c)).symm
  | ⟨2, _⟩ => exact ((dat m c).arrAt_in 2 rfl _).trans (Function.update_of_ne (show (Proc.devRef .tc main_arg4 : DevRef τ sig) ≠ Proc.devRef .tc main_v8 by decide) (outAt m c) (VI m c)).symm
  | ⟨3, _⟩ => exact ((dat m c).arrAt_in 3 rfl _).trans (Function.update_of_ne (show (Proc.devRef .tc main_v7 : DevRef τ sig) ≠ Proc.devRef .tc main_v8 by decide) (outAt m c) (VI m c)).symm
  | ⟨4, _⟩ => exact (arr_out m c).trans (Function.update_self (Proc.devRef .tc main_v8) (outAt m c) (VI m c)).symm

set_option backward.isDefEq.respectTransparency.types false in
/-- The region, entered at the host operations' buffers and left with the result in its window's array. -/
def region : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ others (Finset.empty_subset _) kit rfl (fun c => (body_ob m c).loose)
    (fun _ => 0) owed (fun c => (zero_add (owed c)).symm) (fun _ => rfl) (fun _ => rfl) (fun _ w => ite_self _)
    (VI m) (VO m) (fun c b hb => Function.update_of_ne (by rintro rfl; exact absurd hb (by decide)) _ _)
    (start m) (fun c => semVal (barCell c) 0) (inside m) (fun c => semVal (barCell c) 0) (start_open m) (enter m) (leave m)
    (fun c => by iintro H; imodintro; iexact H)
    (fun _ => 0)
    ⟨fun _ w s => by rw [L_tc]; exact Finset.mem_singleton_self _,
      fun _ w s => (by decide : ∀ (w : Fin 5) (s : Fin (spec0 w).nbuf), lv (((0 : Dev nD) : Thread nD τ), .dma ((spec0 w).sem s)) () ≤ 0) w s, fun c t g i h => owed_levels m c t g i h⟩
    (fun _ => iprop(emp))
    (fun c w => rfl) (fun c w => arrays_after m c w)

theorem region_pre (c : Dev nD) : iprop(StableHlo.held (c : Thread nD τ) bufs (VI m c) ∗ preR m c) ⊢ (region m).pre c := by
  show _ ⊢ iprop(StableHlo.held (c : Thread nD τ) arrs (VI m c) ∗ (∃ r, prngReg c r)
    ∗ (StableHlo.held (c : Thread nD τ) others (VI m c) ∗ emp) ∗ start m c ∗ ∃ Wd, owes (c : Thread nD τ) (0 + owed c) Wd)
  rw [StableHlo.held_sub_split (c : Thread nD τ) arrs_sub, zero_add]
  unfold preR owing
  iintro ⟨⟨Ha, Ho⟩, Hs, Hp, HO⟩
  isplitl [Ha]; · iexact Ha
  isplitl [Hp]; · iexact Hp
  isplitl [Ho]
  · isplitl [Ho]; · iexact Ho
    iempintro
  isplitl [Hs] <;> iassumption

theorem region_post (c : Dev nD) : (region m).post c ⊢ iprop(StableHlo.held (c : Thread nD τ) bufs (VO m c) ∗ postR c) := by
  show iprop(StableHlo.held (c : Thread nD τ) arrs (VO m c) ∗ (∃ r, prngReg c r)
    ∗ (StableHlo.held (c : Thread nD τ) others (VO m c) ∗ emp) ∗ semVal (barCell c) 0 ∗ ∃ Wd, owes (c : Thread nD τ) (0 : CellTallies nD τ sig Unit) Wd) ⊢ _
  rw [StableHlo.held_sub_split (c : Thread nD τ) arrs_sub]
  unfold postR owing
  iintro ⟨Ha, -, ⟨Ho, -⟩, Hb, HO⟩
  isplitl [Ha Ho]
  · isplitl [Ha] <;> iassumption
  isplitl [Hb] <;> iassumption

/-- The program as its segments. -/
def segs : List (Pipeline.Seg (pcfgs (F := F)) adm (pdats m) () defs₀ 𝒱₀ L lv) :=
  [.host (segIn m), .region (region m), .host (segOut m)]

theorem main_is (c : Dev nD) : main (F := F) c = Pipeline.Seg.run (segs m) :=
  main_segs adm (pdats m) () 𝒱₀ L lv (segIn m) (segOut m) (region m) rfl rfl c

/-! ## The launch -/

theorem tk_inj : Function.Injective tk := by decide

/-- Every duty's token. -/
def tokens : Finset (GSem nD τ sig × ℕ × Bool) :=
  Finset.univ.map ⟨fun ck : Dev nD × Fin 20 => (((ck.1 : Thread nD τ), (tk ck.2).1), 0, (tk ck.2).2), fun _ _ h =>
    Prod.ext (congrArg (fun t : GSem nD τ sig × ℕ × Bool => t.1.1.1) h)
      (tk_inj (Prod.ext (congrArg (fun t : GSem nD τ sig × ℕ × Bool => t.1.2) h) (congrArg (fun t : GSem nD τ sig × ℕ × Bool => t.2.2) h)))⟩

/-- Each token with the device that pays with it. -/
theorem tokens_dealt : (bigSep tokens (fun x => dutyTok ER x.1 x.2.1 x.2.2) : sProp 𝕄) = bigSep Finset.univ fun c : Dev nD => paid c := by
  unfold tokens paid
  rw [bigSep_map, bigSep_univ_prod, bigSep_univ_comm, bigSep_univ_comm (fun c k => dutyTok ER ((pay k c : Thread nD τ), (tk k).1) 0 (tk k).2)]
  exact bigSep_congr fun k _ => bigSep_univ_equiv (pay k) (fun c : Dev nD => (dutyTok ER ((c : Thread nD τ), (tk k).1) 0 (tk k).2 : sProp 𝕄))

theorem osem_ne_bar : ∀ k : Fin 18, osem k ≠ .reg barS := by decide

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- The launch's ghost state: the windows' and the protocol's. -/
def u₀ : UU :=
  (initOf (Pipeline.cells (Pipeline.pin (pcfgs (F := F)) adm) cellOf_inj) (Pipeline.launchToks (Pipeline.pin (pcfgs (F := F)) adm) cellOf_inj),
    launchOf barCells scCells tokens)

/-- The protocol's part, kept on the first device until it is dealt. -/
def G (c : Dev nD) : sProp 𝕄 := if c = 0 then BI.own (ER (launchOf barCells scCells tokens)) else iprop(emp)

theorem G_all : (bigSep Finset.univ G : sProp 𝕄) = BI.own (ER (launchOf barCells scCells tokens)) := by
  rw [bigSep_univ_at _ 0, bigSep_congr (s := Finset.univ.erase (0 : Dev nD)) (Ψ := fun _ => (BI.emp : sProp 𝕄))
      fun c hc => by unfold G; rw [if_neg (Finset.ne_of_mem_erase hc)]; rfl, BI.bigSep_emp_const]
  unfold G
  rw [if_pos rfl]
  exact BI.equiv_iff.mp sep_emp

/-! ### The launch credit -/

/-- What every device owes at launch: to whose cell, which cell, how much. -/
def debts : List ((Dev nD ≃ Dev nD) × SemLoc sig × ℕ) :=
  [(ring.symm, .reg barS, 1), (ring, .reg barS, 1), (ring, (due 1).1, NX), (ring, (due 2).1, NX), (ring, (due 4).1, NA), (ring, (due 7).1, NL),
    (ring, (due 3).1, NX), (ring, (due 5).1, NA), (ring, (due 8).1, NL), (ring, (due 6).1, NA), (ring, (due 9).1, NL)]

theorem oweList_eq (d : Dev nD) : oweList d = debts.map fun e => (((e.1 d : Thread nD τ), e.2.1), e.2.2) := rfl

/-- Summed over the devices, a cell is owed what its semaphore is owed by the devices' list: each names every device once. -/
theorem debts_sum (c : Dev nD) (sm : SemLoc sig) (es : List ((Dev nD ≃ Dev nD) × SemLoc sig × ℕ)) :
    ∑ d : Dev nD, tally (es.map fun e => (((e.1 d : Thread nD τ), e.2.1), e.2.2)) ((c : Thread nD τ), sm) ()
      = (es.map fun e => if sm = e.2.1 then e.2.2 else 0).sum := by
  induction es with
  | nil => exact Finset.sum_eq_zero fun _ _ => rfl
  | cons e es ih =>
    have h (d : Dev nD) : tally ((e :: es).map fun e => (((e.1 d : Thread nD τ), e.2.1), e.2.2)) ((c : Thread nD τ), sm) ()
        = tally (es.map fun e => (((e.1 d : Thread nD τ), e.2.1), e.2.2)) ((c : Thread nD τ), sm) () + if d = e.1.symm c then (if sm = e.2.1 then e.2.2 else 0) else 0 := by
      show tally _ _ () + tallyAt (((e.1 d : Thread nD τ), e.2.1)) () e.2.2 ((c : Thread nD τ), sm) () = _
      rw [tallyAt_apply]
      congr 1
      by_cases hd : d = e.1.symm c
      · subst hd
        rw [if_pos rfl, Equiv.apply_symm_apply]
        by_cases hs : sm = e.2.1
        · rw [if_pos ⟨by rw [hs], rfl⟩, if_pos hs]
        · rw [if_neg (fun h => hs (congrArg Prod.snd h.1)), if_neg hs]
      · rw [if_neg hd, if_neg (fun h => hd (by rw [show c = e.1 d from congrArg (fun g : GSem nD τ sig => g.1.1) h.1, Equiv.symm_apply_apply]))]
    rw [Finset.sum_congr rfl fun d _ => h d, Finset.sum_add_distrib, ih, Finset.sum_ite_eq' Finset.univ, if_pos (Finset.mem_univ _), List.map_cons, List.sum_cons,
      Nat.add_comm]

theorem due_sum (k : Fin 10) : (debts.map fun e => if (due k).1 = e.2.1 then e.2.2 else 0).sum = (due k).2 := by
  fin_cases k <;> simp [debts]

theorem due_inj : Function.Injective (fun k : Fin 10 => (due k).1) := by decide

theorem due_credit (c : Dev nD) (k : Fin 10) :
    tallyOn ((c : Thread nD τ), (due k).1) (launchCredit (Pipeline.owing owed) 0 ((c : Thread nD τ), (due k).1))
      = (tallyAt ((c : Thread nD τ), (due k).1) () (due k).2 : CellTallies nD τ sig Unit) := by
  unfold tallyAt
  refine congrArg _ (Finsupp.ext fun u => ?_)
  cases u
  rw [Pipeline.launchCredit_owing, Finsupp.single_eq_same, ← due_sum k, ← debts_sum c (due k).1 debts]
  rfl

theorem launch_credits (c : Dev nD) : (Pipeline.launchCred owed c : sProp 𝕄) ⊢ credits c := by
  unfold Pipeline.launchCred credits
  refine (BI.bigSep_subset (Finset.subset_univ (Finset.univ.map ⟨fun k : Fin 10 => (due k).1, due_inj⟩))).trans ?_
  rw [bigSep_map]
  exact Entails.of_eq (bigSep_congr fun k _ => by rw [← due_credit c k]; rfl)

/-! ### What every device starts with -/

theorem sems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem bar_only : ∀ sm : SemLoc sig, sm.isScoped .tc = false → sm = .reg barS := by decide

abbrev T₀ (c : Dev nD) : sProp 𝕄 := iprop(StableHlo.held (c : Thread nD τ) bufs (VL m c) ∗ preR m c)
abbrev Tₙ (c : Dev nD) : sProp 𝕄 := iprop(StableHlo.held (c : Thread nD τ) bufs (VE m c) ∗ semVal (barCell c) 0)

/-- What a device keeps of the protocol's ghost state. -/
def linear (c : Dev nD) : sProp 𝕄 :=
  iprop(atPos ER (barCell c) 0 ∅ 0 ∗ (bigSep Finset.univ fun k : Fin 18 => openTok ER ((c : Thread nD τ), osem k)) ∗ paid c)
/-- What it keeps of the rest. -/
def bundle (c : Dev nD) : sProp 𝕄 :=
  iprop(StableHlo.held (c : Thread nD τ) bufs (VL m c) ∗ credits c ∗ owing c (owed c) ∗ ∃ r, prngReg c r)

theorem T₀_intro (κ : GSem nD τ sig → ℕ) (c : Dev nD) : iprop(records (vals m) κ ∗ (linear c ∗ bundle m c)) ⊢ T₀ m c := by
  unfold linear bundle T₀ preR start
  iintro ⟨#HR, ⟨Hb, Ho, Hp⟩, Hh, Hc, HO, Hr⟩
  isplitl [Hh]; · iexact Hh
  isplitl [Hb Ho Hp Hc]
  · iexists κ
    isplitr; · iexact HR
    isplitl [Hb]; · iexact Hb
    isplitl [Ho]; · iexact Ho
    isplitl [Hp] <;> iassumption
  isplitl [Hr] <;> iassumption

theorem unpair {ι : Type} [Fintype ι] {Φ Ψ : ι → sProp 𝕄} :
    bigSep Finset.univ (fun i => iprop(Φ i ∗ Ψ i)) ⊢ iprop(bigSep Finset.univ Φ ∗ bigSep Finset.univ Ψ) :=
  Entails.of_eq (BI.bigSep_sep _ _ _)

theorem init :
    iprop((bigSep Finset.univ fun c : Dev nD => iprop(unscopedBufs c (fun b => m ((c : Thread nD τ).loc b)) ∗ unscopedSems0 c
          ∗ owes (c : Thread nD τ) (owed c) ∅ ∗ Pipeline.launchCred owed c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (owed c) ∅ ∗ Pipeline.launchCred owed c ∗ prngReg c (ρ c) ∗ G c)
      ⊢ (iprop(bundle m c ∗ (semVal (barCell c) 0 ∗ G c)) : sProp 𝕄) := by
    rw [show unscopedBufs c (fun b => m ((c : Thread nD τ).loc b)) = StableHlo.held (c : Thread nD τ) bufs (VL m c) from Pipeline.unscopedBufs_held c (VL m c),
      sems_eq]
    unfold bundle owing
    iintro ⟨Hh, Hus, HO, Hcr, Hp, HG⟩
    ihave Hc := (launch_credits c) $$ Hcr
    isplitl [Hh Hc HO Hp]
    · isplitl [Hh]; · iexact Hh
      isplitl [Hc]; · iexact Hc
      isplitl [HO]; · iexists _; iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => bigSep Finset.univ fun k : Fin 18 => openTok ER ((c : Thread nD τ), osem k)) :=
    Entails.of_eq (by rw [bigSep_map, bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (owed c) ∅ ∗ Pipeline.launchCred owed c ∗ prngReg c (ρ c) ∗ G c))
      ⊢ (bigSep Finset.univ fun c : Dev nD => iprop(bundle m c ∗ (semVal (barCell c) 0 ∗ G c)) : sProp 𝕄) from bigSep_mono fun c _ => hcore c) $$ H
  ihave H2 := unpair $$ H'; icases H2 with ⟨HB, H3⟩
  ihave H4 := unpair $$ H3; icases H4 with ⟨Hv, HG⟩
  ihave Hu := (show bigSep Finset.univ (G (F := F)) ⊢ BI.own (ER (launchOf barCells scCells tokens)) from Entails.of_eq G_all) $$ HG
  imod (Rounds.fund_launch ER (talkRd (vals m)) disjoint_cells (fun g _ h => h) tokens) $$ [Hv Hu] with ⟨%κ, -, #Hinv, #Hr, Hat, Hopen, Htok⟩
  · isplitl [Hv]
    · iapply hv $$ Hv
    · iexact Hu
  imodintro
  iapply (bigSep_with_persistent (R := records (vals m) κ) (Φ := fun c => iprop(linear c ∗ bundle m c)) fun c _ => T₀_intro m κ c)
  isplitr
  · unfold records
    isplitr; · iexact Hinv
    iexact Hr
  iapply pair
  isplitr [HB]
  · unfold linear
    iapply pair; isplitl [Hat]; · iapply hat $$ Hat
    iapply pair; isplitl [Hopen]; · iapply hopen $$ Hopen
    iapply (Entails.of_eq tokens_dealt) $$ Htok
  · iexact HB

/-! ## The run -/

theorem VE_result (c : Dev nD) : VE m c (Proc.devRef .tc main_v9)
    = (broadcastInDim S1x512x1024 ![1, 2] bcast_S512x1024_S1x512x1024_1_2 (outAt m c) : S1x512x1024.Idx → Elt F .f32) := by
  show StableHlo.after hostOps1 (VO m c) (Proc.devRef .tc main_v9) = _
  rw [StableHlo.after_cons, StableHlo.after_nil, StableHlo.unary_result]
  exact congrArg _ (Function.update_self (Proc.devRef .tc main_v8) (outAt m c) (VI m c))

theorem VE_arg (c : Dev nD) (b : Ref sig .tc) (h₈ : (Proc.devRef .tc b : DevRef τ sig) ≠ Proc.devRef .tc main_v8)
    (h₉ : b ≠ main_v9) : VE m c (Proc.devRef .tc b) = V m c b := by
  show StableHlo.after hostOps1 (VO m c) (Proc.devRef .tc b) = _
  rw [StableHlo.after_cons, StableHlo.after_nil, StableHlo.unary_result_ne _ _ _ _ _ _ h₉]
  exact Function.update_of_ne h₈ (outAt m c) (VI m c)

/-- The buffers the claims read. -/
abbrev shown : Finset (DevRef τ sig) :=
  {Proc.devRef .tc main_arg0, Proc.devRef .tc main_arg1, Proc.devRef .tc main_arg2, Proc.devRef .tc main_arg3, Proc.devRef .tc main_arg4, Proc.devRef .tc main_v9}

theorem shown_sub : shown ⊆ bufs := by decide

theorem shown_eq (c : Dev nD) (W : Valuation τ sig (Elt F)) : (StableHlo.held (c : Thread nD τ) shown W : sProp 𝕄)
    = iprop((((c : Thread nD τ).loc main_arg0) ↦{fullShare} W main_arg0) ∗ (((c : Thread nD τ).loc main_arg1) ↦{fullShare} W main_arg1)
      ∗ (((c : Thread nD τ).loc main_arg2) ↦{fullShare} W main_arg2) ∗ (((c : Thread nD τ).loc main_arg3) ↦{fullShare} W main_arg3)
      ∗ (((c : Thread nD τ).loc main_arg4) ↦{fullShare} W main_arg4) ∗ (((c : Thread nD τ).loc main_v9) ↦{fullShare} W main_v9)) := by
  unfold StableHlo.held
  rw [bigSep_eq_bigSepL_of_eq [Proc.devRef .tc main_arg0, Proc.devRef .tc main_arg1, Proc.devRef .tc main_arg2, Proc.devRef .tc main_arg3,
    Proc.devRef .tc main_arg4, Proc.devRef .tc main_v9] (by decide) (by decide)]
  rfl

/-- What the claims read of device `c`'s memory after the run. -/
def Ends (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4))
  ∧ s.mem ((c : Thread nD τ).loc main_v9) = (broadcastInDim S1x512x1024 ![1, 2] bcast_S512x1024_S1x512x1024_1_2 (outAt m c) : S1x512x1024.Idx → Elt F .f32)
  ∧ s.sem (barCell c) = 0

theorem finish (c : Dev nD) (s' : Phys nD τ sig (Elt F)) : iprop(Tₙ m c ∗ SI s') ⊢ (|={Set.univ}=> iprop(⌜Ends m c s'.mem⌝ ∗ SI s') : sProp 𝕄) := by
  unfold Tₙ
  rw [StableHlo.held_sub_split (c : Thread nD τ) shown_sub, shown_eq]
  iintro ⟨⟨⟨⟨H0, H1, H2, H3, H4, H9⟩, -⟩, Hb⟩, HSI⟩
  icombine HSI H0 gives %h0
  icombine HSI H1 gives %h1
  icombine HSI H2 gives %h2
  icombine HSI H3 gives %h3
  icombine HSI H4 gives %h4
  icombine HSI H9 gives %h9
  icombine HSI Hb gives %hb
  imodintro
  isplitr
  · ipureintro
    exact ⟨⟨(Buf.eq_of_forall_mem_univ h0).trans ((VE_arg m c main_arg0 (by decide) (by decide)).trans (V_main_arg0 m c)),
        (Buf.eq_of_forall_mem_univ h1).trans ((VE_arg m c main_arg1 (by decide) (by decide)).trans (V_main_arg1 m c)),
        (Buf.eq_of_forall_mem_univ h2).trans ((VE_arg m c main_arg2 (by decide) (by decide)).trans (V_main_arg2 m c)),
        (Buf.eq_of_forall_mem_univ h3).trans ((VE_arg m c main_arg3 (by decide) (by decide)).trans (V_main_arg3 m c)),
        (Buf.eq_of_forall_mem_univ h4).trans ((VE_arg m c main_arg4 (by decide) (by decide)).trans (V_main_arg4 m c))⟩,
      (Buf.eq_of_forall_mem_univ h9).trans (VE_result m c), by simpa using hb⟩
  iexact HSI

set_option backward.isDefEq.respectTransparency.types false in
/-- Every run of the program ends, whatever memory it starts from; its arguments are as they were, every semaphore is at zero,
    and every device holds the result of its own queries. -/
theorem run_main : θ_run defs (onTc (τ := τ) (main (F := F))) ⟨m, fun _ => 0, ρ⟩
    (fun r => (∀ c : Dev nD, Ends m c r.2) ∧ r.2.sem = fun _ => 0) :=
  Pipeline.θ_run_regions_kit_sems (pcfgs (F := F)) adm (pdats m) () cellOf_inj EP defs₀ 𝒱₀ L lv m ρ main (segs m)
    (fun c Q => by rw [main_is m c])
    (by simp only [segs, Pipeline.Seg.pipes_host, Pipeline.Seg.pipes_region, Pipeline.Seg.pipes_nil]; decide)
    (O₀ := owed) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := by
      refine ⟨fun c => .rfl, fun c => region_pre m c, fun c => region_post m c, fun c => ?_⟩
      show iprop(StableHlo.held (c : Thread nD τ) bufs (VE m c) ∗ postR c)
        ⊢ iprop(Tₙ m c ∗ ∃ W, owes (c : Thread nD τ) (0 : CellTallies nD τ sig Unit) W)
      unfold postR owing
      iintro ⟨Hh, Hb, HO⟩
      isplitr [HO]
      · isplitl [Hh] <;> iassumption
      · iexact HO)
    (hinit := init m ρ)
    (QY := fun c s => Ends m c s)
    (hfin := fun c s' => finish m c s')
    (hQ := fun s h hs => ⟨h, sem_eq_zero hs fun c sm hsm => by
        obtain rfl := bar_only sm hsm
        exact (h c).2.2⟩)

end Cert.KernelIdealProof
-- ==== Proof.Math.Softmax.lean ====
/-
  A weighted mean whose weights are exponentials of real scores does not change when a real number is subtracted from every
  score. Over the extended reals the values that are averaged may be infinite.
-/
module

public import Idealize.ShloMosaic.PureOps.Ideal.Laws
public import Idealize.ShloMosaic.Lib.IdealHost

@[expose] public section

noncomputable section

namespace Cert.Attention

open Idealize.ShloMosaic
open scoped BigOperators

/-- A real number, among the extended reals. -/
def IsReal (z : EReal) : Prop := ∃ r : ℝ, z = (r : EReal)

theorem IsReal.mul {a b : EReal} (ha : IsReal a) (hb : IsReal b) : IsReal (a * b) := by
  obtain ⟨x, rfl⟩ := ha
  obtain ⟨y, rfl⟩ := hb
  exact ⟨x * y, (EReal.coe_mul x y).symm⟩

theorem IsReal.add {a b : EReal} (ha : IsReal a) (hb : IsReal b) : IsReal (a + b) := by
  obtain ⟨x, rfl⟩ := ha
  obtain ⟨y, rfl⟩ := hb
  exact ⟨x + y, (EReal.coe_add x y).symm⟩

theorem IsReal.sum {ι : Type} (s : Finset ι) {f : ι → EReal} (hf : ∀ i, IsReal (f i)) : IsReal (∑ i ∈ s, f i) := by
  classical
  induction s using Finset.induction_on with
  | empty => exact ⟨0, by rw [Finset.sum_empty, EReal.coe_zero]⟩
  | insert a s ha ih => rw [Finset.sum_insert ha]; exact (hf a).add ih

/-- An extended real whose absolute value is below the top element is a real number. -/
theorem isReal_of_abs_lt {a : EReal} (h : max a (-a) < ⊤) : IsReal a := by
  induction a with
  | bot => exact absurd h (by simp)
  | top => exact absurd h (by simp)
  | coe r => exact ⟨r, rfl⟩

/-- A real factor that is not negative moves out of a sum. -/
theorem coe_mul_sum {ι : Type} (s : Finset ι) {a : ℝ} (ha : 0 ≤ a) (f : ι → EReal) :
    ∑ i ∈ s, (a : EReal) * f i = (a : EReal) * ∑ i ∈ s, f i := by
  classical
  induction s using Finset.induction_on with
  | empty => rw [Finset.sum_empty, Finset.sum_empty, mul_zero]
  | insert x s hx ih =>
    rw [Finset.sum_insert hx, Finset.sum_insert hx, ih, EReal.left_distrib_of_nonneg_of_ne_top (by exact_mod_cast ha) (EReal.coe_ne_top a)]

/-- A sum of real numbers, among the extended reals. -/
theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert x s hx ih => rw [Finset.sum_insert hx, Finset.sum_insert hx, EReal.coe_add, ih]

/-- The largest of finitely many real numbers, and at least one, is one of them. -/
theorem fold_max_isReal {ι : Type} [Fintype ι] [Nonempty ι] (f : ι → EReal) (hf : ∀ i, IsReal (f i)) :
    IsReal ((Finset.univ : Finset ι).fold max ⊥ f) := by
  have e : (Finset.univ : Finset ι).fold max ⊥ f = Finset.univ.sup f := rfl
  rw [e]
  obtain ⟨i, -, hi⟩ := Finset.exists_mem_eq_sup Finset.univ Finset.univ_nonempty f
  rw [hi]
  exact hf i

/-- Subtracting one real number from all scores leaves the weighted mean as it was. -/
theorem softmax_shift {ι : Type} [Fintype ι] [Nonempty ι] (s : ι → EReal) (hs : ∀ i, IsReal (s i)) (v : ι → EReal) {M : EReal} (hM : IsReal M) :
    Ideal.div (∑ i, v i * Ideal.exp (s i - M)) (∑ i, Ideal.exp (s i - M))
      = Ideal.div (∑ i, Ideal.exp (s i) * v i) (∑ i, Ideal.exp (s i)) := by
  obtain ⟨μ, rfl⟩ := hM
  choose t ht using hs
  have ep : ∀ i, Ideal.exp (s i) = ((Real.exp (t i) : ℝ) : EReal) := fun i => by rw [ht i]; rfl
  have eq : ∀ i, Ideal.exp (s i - (μ : EReal)) = ((Real.exp (-μ) : ℝ) : EReal) * Ideal.exp (s i) := fun i => by
    rw [ep i, ht i, ← EReal.coe_sub, ← EReal.coe_mul, ← Real.exp_add, neg_add_eq_sub]
    rfl
  have ha : 0 < Real.exp (-μ) := Real.exp_pos _
  have hL : 0 < ∑ i, Real.exp (t i) := Finset.sum_pos (fun i _ => Real.exp_pos _) Finset.univ_nonempty
  have en : ∑ i, v i * Ideal.exp (s i - (μ : EReal)) = ((Real.exp (-μ) : ℝ) : EReal) * ∑ i, Ideal.exp (s i) * v i := by
    rw [← coe_mul_sum _ ha.le]
    refine Finset.sum_congr rfl fun i _ => ?_
    rw [eq i, mul_comm, mul_assoc]
  have ed : ∑ i, Ideal.exp (s i) = ((∑ i, Real.exp (t i) : ℝ) : EReal) := by
    rw [coe_sum]
    exact Finset.sum_congr rfl fun i _ => ep i
  have ed' : ∑ i, Ideal.exp (s i - (μ : EReal)) = ((Real.exp (-μ) * ∑ i, Real.exp (t i) : ℝ) : EReal) := by
    rw [EReal.coe_mul, ← ed, ← coe_mul_sum _ ha.le]
    exact Finset.sum_congr rfl fun i _ => eq i
  rw [en, ed, ed']
  unfold Ideal.div
  rw [if_neg (by rw [← EReal.coe_zero, EReal.coe_eq_coe_iff]; exact (mul_pos ha hL).ne'),
    if_neg (by rw [← EReal.coe_zero, EReal.coe_eq_coe_iff]; exact hL.ne'), ← EReal.coe_inv, ← EReal.coe_inv]
  rw [mul_comm ((Real.exp (-μ) : ℝ) : EReal), mul_assoc, ← EReal.coe_mul]
  congr 2
  field_simp

/-- A sum over `a * b` places, taken block by block. -/
theorem sum_blocks {n : ℕ} (a b : ℕ) (hn : n = a * b) (f : Fin n → EReal) :
    ∑ j, f j = ∑ i : Fin a, ∑ k : Fin b, f ⟨b * i.val + k.val, by
      have h₁ : b * i.val + k.val < b * (i.val + 1) := by rw [Nat.mul_succ]; exact Nat.add_lt_add_left k.isLt _
      have h₂ : b * (i.val + 1) ≤ b * a := Nat.mul_le_mul_left _ i.isLt
      rw [hn, Nat.mul_comm a b]
      exact h₁.trans_le h₂⟩ := by
  subst hn
  rw [← Equiv.sum_comp finProdFinEquiv, Fintype.sum_prod_type]
  refine Finset.sum_congr rfl fun i _ => Finset.sum_congr rfl fun k _ => congrArg f (Fin.ext ?_)
  show k.val + b * i.val = b * i.val + k.val
  omega

end Cert.Attention
-- ==== Proof.Math.Spec.lean ====
/-
  Attention over the extended reals: each head's scores, their exponentials' sum and the sum weighted by the values, and the
  output projection. Every sum is over whole arrays.
-/
module

public import proofs.«01_k».proof.Proof.Math.Softmax
public import Idealize.ShloMosaic.Lib.ValueIdx

@[expose] public section

noncomputable section

namespace Cert.Attention

open Idealize.ShloMosaic Idealize.ShloMosaic.ValueIdx
open scoped BigOperators

/-- The arrays: the queries' input, a projection, the keys or the values. -/
abbrev XArr := (⟨3, ![1, 2048, 1024]⟩ : Shape).Idx → EReal
abbrev WArr := (⟨2, ![1024, 1024]⟩ : Shape).Idx → EReal
abbrev KArr := (⟨4, ![1, 8192, 8, 128]⟩ : Shape).Idx → EReal

/-- The factor of the scores. -/
def scale : EReal := Ideal.ofBits .f32 0x3DB504F3#32

theorem scale_real : ∃ r : ℝ, 0 ≤ r ∧ scale = (r : EReal) := by
  unfold scale Ideal.ofBits Ideal.ieee
  refine ⟨_, ?_, rfl⟩
  have e : ((0x3DB504F3#32).extractLsb' (8 + 23) 1 == 1#1) = false := by decide
  rw [e, if_neg Bool.false_ne_true]
  positivity

/-- Column `d` of head `h`. -/
def col (h : Fin 8) (d : Fin 128) : Fin 1024 := ⟨128 * h.val + d.val, by omega⟩

/-- Head `h`'s query of row `i`. -/
def query (X : XArr) (Wq : WArr) (i : Fin 2048) (h : Fin 8) (d : Fin 128) : EReal :=
  ∑ e : Fin 1024, X (ix3 (0 : Fin 1) i e) * Wq (ix2 e (col h d))

/-- The score of row `i` and key `j`. -/
def score (X : XArr) (Wq : WArr) (K : KArr) (h : Fin 8) (i : Fin 2048) (j : Fin 8192) : EReal :=
  (∑ d : Fin 128, query X Wq i h d * K (ix4 (0 : Fin 1) j h d)) * scale

/-- The sum of the exponentials, and the sum weighted by the values. -/
def total (X : XArr) (Wq : WArr) (K : KArr) (h : Fin 8) (i : Fin 2048) : EReal := ∑ j : Fin 8192, Ideal.exp (score X Wq K h i j)
def weighted (X : XArr) (Wq : WArr) (K V : KArr) (h : Fin 8) (i : Fin 2048) (d : Fin 128) : EReal :=
  ∑ j : Fin 8192, Ideal.exp (score X Wq K h i j) * V (ix4 (0 : Fin 1) j h d)

/-- The result at row `i`, column `n`. -/
def attention (X : XArr) (Wq : WArr) (K V : KArr) (Wo : WArr) (i : Fin 2048) (n : Fin 1024) : EReal :=
  ∑ h : Fin 8, ∑ d : Fin 128, Ideal.div (weighted X Wq K V h i d) (total X Wq K h i) * Wo (ix2 (col h d) n)

/-- Finite inputs have finite scores. -/
theorem score_real {X : XArr} {Wq : WArr} {K : KArr} (hX : ∀ i, IsReal (X i)) (hW : ∀ i, IsReal (Wq i)) (hK : ∀ i, IsReal (K i))
    (h : Fin 8) (i : Fin 2048) (j : Fin 8192) : IsReal (score X Wq K h i j) :=
  (IsReal.sum _ fun d => (IsReal.sum _ fun e => (hX _).mul (hW _)).mul (hK _)).mul (let ⟨r, _, e⟩ := scale_real; ⟨r, e⟩)

end Cert.Attention
-- ==== Proof.Math.Heads.lean ====
/-
  What one device computes, read at an index: the queries, a head's weighted sums and denominators over the device's keys, and
  the block of the result.
-/
module

public import proofs.«01_k».proof.Proof.Math.Spec
public import proofs.«01_k».proof.Proof.KI.Values
public import Idealize.ShloMosaic.Lib.MatmulPlain

@[expose] public section

noncomputable section

namespace Cert.Attention

open Idealize.ShloMosaic Idealize.ShloMosaic.ValueIdx
open Cert.KernelIdeal Cert.KernelIdeal.Gen Cert.KernelIdealProof
open scoped BigOperators

variable (X : S512x1024.Idx → EReal) (wq wo : S1024x1024.Idx → EReal)
variable (q : S512x1024.Idx → EReal) (kv : S2x8x2048x128.Idx → EReal)

/-- A zero accumulator. -/
theorem zero_at {s : Shape} (y : s.Idx) : (constant s .f32 0x00000000#32 : FVec Ideal s .f32) y = 0 :=
  Ideal.ofBits_zero_f32

/-- The scaled queries. -/
theorem qOf_apply (r : Fin 512) (n : Fin 1024) :
    qOf (F := Ideal) X wq (ix2 r n) = (∑ e : Fin 1024, X (ix2 r e) * wq (ix2 e n)) * scale := by
  have e : qOf (F := Ideal) X wq (ix2 r n)
      = FloatOps.matmul (F := Ideal) (φ₁ := .bf16) (φ₂ := .bf16) (DotDims.plain 512 1024 1024) none
          (shapeCast S512x1024 X shapeCasts_S512x1024_S512x1024)
          (shapeCast S1024x1024 wq shapeCasts_S1024x1024_S1024x1024) (constant S512x1024 .f32 0x00000000#32) (ix2 r n) * scale := rfl
  rw [e, Ideal.matmul_plain_apply, shapeCast_self, shapeCast_self, zero_at, zero_add]

/-- A head's columns of the queries. -/
theorem qHead_apply (h : Fin 8) (r : Fin 512) (d : Fin 128) : qHead (F := Ideal) q h (ix2 r d) = q (ix2 r (col h d)) :=
  extractStridedSlice_apply _ _ _ _ _ fun a => match a with
    | ⟨0, _⟩ => by show r.val = 0 + r.val; omega
    | ⟨1, _⟩ => rfl

/-- Key `j` of tile `t`. -/
def key (t : Fin 2) (j : Fin 1024) : Fin 2048 := ⟨1024 * t.val + j.val, by omega⟩

/-- A head's tile of the keys or the values. -/
theorem kvTile_apply (i : Fin 2) (h : Fin 8) (t : Fin 2) (j : Fin 1024) (d : Fin 128) :
    kvTile (F := Ideal) kv i h t (ix2 j d) = kv (ix4 i h (key t j) d) := by
  unfold kvTile
  rw [shapeCast_apply _ _ (ix2 j d) (ix4 (0 : Fin 1) (0 : Fin 1) j d) (by
    rw [Shape.rowMajor_val_four, Shape.rowMajor_val_two]
    show ((0 * 1 + 0) * 1024 + j.val) * 128 + d.val = j.val * 128 + d.val
    omega)]
  refine congrArg kv (funext fun a => Fin.ext ?_)
  match a with
  | ⟨0, _⟩ => show i.val + 1 * 0 = i.val; omega
  | ⟨1, _⟩ => show h.val + 1 * 0 = h.val; omega
  | ⟨2, _⟩ => show 1024 * t.val + 1 * j.val = 1024 * t.val + j.val; omega
  | ⟨3, _⟩ => show 0 + 1 * d.val = d.val; omega

/-- The exponential of the score of row `r` and the device's key `j`. -/
def weight (h : Fin 8) (r : Fin 512) (j : Fin 2048) : EReal :=
  Ideal.exp (∑ d : Fin 128, q (ix2 r (col h d)) * kv (ix4 (0 : Fin 2) h j d))

/-- The exponentials of a tile. -/
theorem pTile_apply (h : Fin 8) (t : Fin 2) (r : Fin 512) (j : Fin 1024) :
    pTile (F := Ideal) q kv h t (ix2 r j) = weight q kv h r (key t j) := by
  have e : pTile (F := Ideal) q kv h t (ix2 r j)
      = Ideal.exp (FloatOps.matmul (F := Ideal) (φ₁ := .bf16) (φ₂ := .bf16) (DotDims.transposedRhs 512 128 1024) none
          (qHead (F := Ideal) q h) (kvTile (F := Ideal) kv 0 h t) (constant S512x1024 .f32 0x00000000#32) (ix2 r j)) := rfl
  rw [e, Ideal.matmul_transposedRhs_apply, zero_at, zero_add]
  refine congrArg Ideal.exp (Finset.sum_congr rfl fun d _ => ?_)
  rw [qHead_apply, kvTile_apply]

/-- Their products with the values. -/
theorem accTile_apply (h : Fin 8) (t : Fin 2) (r : Fin 512) (d : Fin 128) :
    accTile (F := Ideal) q kv h t (ix2 r d) = ∑ j : Fin 1024, weight q kv h r (key t j) * kv (ix4 (1 : Fin 2) h (key t j) d) := by
  have e : accTile (F := Ideal) q kv h t (ix2 r d)
      = FloatOps.matmul (F := Ideal) (φ₁ := .bf16) (φ₂ := .bf16) (DotDims.plain 512 1024 128) none
          (pTile (F := Ideal) q kv h t) (kvTile (F := Ideal) kv 1 h t) (constant S512x128 .f32 0x00000000#32) (ix2 r d) := rfl
  rw [e, Ideal.matmul_plain_apply, zero_at, zero_add]
  refine Finset.sum_congr rfl fun j _ => ?_
  rw [pTile_apply, kvTile_apply]

/-- Their sums. -/
theorem lTile_apply (h : Fin 8) (t : Fin 2) (r : Fin 512) :
    lTile (F := Ideal) q kv h t (ix1 r) = ∑ j : Fin 1024, weight q kv h r (key t j) := by
  unfold lTile
  refine (Ideal.multiReduction_add_single _ _ _ _ _ _).trans ?_
  refine Finset.sum_congr rfl fun (j : Fin 1024) _ => ?_
  rw [← pTile_apply]
  refine congrArg (pTile (F := Ideal) q kv h t) (funext fun a => Fin.ext ?_)
  match a with
  | ⟨0, _⟩ => rfl
  | ⟨1, _⟩ => rfl

/-- A sum over the device's keys is the sum over both tiles. -/
theorem sum_tiles (f : Fin 2048 → EReal) : ∑ j, f j = (∑ j : Fin 1024, f (key 0 j)) + ∑ j : Fin 1024, f (key 1 j) := by
  rw [sum_blocks 2 1024 (by norm_num), Fin.sum_univ_two]
  rfl

/-- A head's weighted sums and denominators over the device's keys. -/
theorem accH_apply (h : Fin 8) (r : Fin 512) (d : Fin 128) :
    accH (F := Ideal) q kv h (ix2 r d) = ∑ j : Fin 2048, weight q kv h r j * kv (ix4 (1 : Fin 2) h j d) := by
  rw [sum_tiles, ← accTile_apply, ← accTile_apply]
  rfl
theorem lH_apply (h : Fin 8) (r : Fin 512) : lH (F := Ideal) q kv h (ix1 r) = ∑ j : Fin 2048, weight q kv h r j := by
  rw [sum_tiles, ← lTile_apply, ← lTile_apply]
  rfl

/-- A head's rows of the output projection. -/
theorem woHead_apply (h : Fin 8) (d : Fin 128) (n : Fin 1024) : woHead (F := Ideal) wo h (ix2 d n) = wo (ix2 (col h d) n) := by
  unfold woHead
  rw [shapeCast_self]
  refine congrArg wo (funext fun a => Fin.ext ?_)
  match a with
  | ⟨0, _⟩ => show 128 * h.val + 1 * d.val = 128 * h.val + d.val; omega
  | ⟨1, _⟩ => show 0 + 1 * n.val = n.val; omega

/-- A head's share of the result. -/
theorem outHead_apply (A : S512x128.Idx → EReal) (l : S512.Idx → EReal) (w : S128x1024.Idx → EReal) (r : Fin 512) (n : Fin 1024) :
    outHead (F := Ideal) A l w (ix2 r n) = ∑ d : Fin 128, Ideal.div (A (ix2 r d)) (l (ix1 r)) * w (ix2 d n) := by
  have e : outHead (F := Ideal) A l w (ix2 r n)
      = FloatOps.matmul (F := Ideal) (φ₁ := .bf16) (φ₂ := .bf16) (DotDims.plain 512 128 1024) none
          (fun y => Ideal.div (A y) (broadcastTo S512x128 (shapeCast S512x1 l shapeCasts_S512_S512x1) broadcasts_S512x1_S512x128 y)) w
          (constant S512x1024 .f32 0x00000000#32) (ix2 r n) := rfl
  rw [e, Ideal.matmul_plain_apply, zero_at, zero_add]
  refine Finset.sum_congr rfl fun d _ => congrArg (fun z => Ideal.div (A (ix2 r d)) z * w (ix2 d n)) ?_
  rw [broadcastTo_apply _ _ (ix2 r d) (ix2 r (0 : Fin 1)) fun a => match a with
    | ⟨0, _⟩ => rfl
    | ⟨1, _⟩ => rfl]
  exact shapeCast_apply _ _ _ _ (by
    rw [Shape.rowMajor_val_one, Shape.rowMajor_val_two]
    show r.val = r.val * 1 + 0
    omega)

/-- A device's block of the result. -/
theorem outOf_apply (R : S8x512x128.Idx → EReal) (Rl : S8x512.Idx → EReal) (r : Fin 512) (n : Fin 1024) :
    outOf (F := Ideal) q kv wo R Rl (ix2 r n)
      = ∑ h : Fin 8, ∑ d : Fin 128, Ideal.div ((∑ j : Fin 2048, weight q kv h r j * kv (ix4 (1 : Fin 2) h j d)) + R (ix3 h r d))
          ((∑ j : Fin 2048, weight q kv h r j) + Rl (ix2 h r)) * wo (ix2 (col h d) n) := by
  have e : ∀ h : Fin 8, outHead (F := Ideal) (addf (accH q kv h) (headOf R h)) (addf (lH q kv h) (headOfL Rl h)) (woHead wo h) (ix2 r n)
      = ∑ d : Fin 128, Ideal.div ((∑ j : Fin 2048, weight q kv h r j * kv (ix4 (1 : Fin 2) h j d)) + R (ix3 h r d))
          ((∑ j : Fin 2048, weight q kv h r j) + Rl (ix2 h r)) * wo (ix2 (col h d) n) := fun h => by
    rw [outHead_apply]
    refine Finset.sum_congr rfl fun d _ => ?_
    rw [woHead_apply, ← accH_apply, ← lH_apply]
    rfl
  rw [Fin.sum_univ_eight, ← e 0, ← e 1, ← e 2, ← e 3, ← e 4, ← e 5, ← e 6, ← e 7]
  rfl

end Cert.Attention
-- ==== Proof.Math.Inputs.lean ====
/-
  The buffers the kernel reads, in terms of the arguments of one device: the queries' input without its leading axis, and the
  keys and values one above the other with the heads moved to the front.
-/
module

public import proofs.«01_k».proof.Proof.KI.Data
public import Idealize.ShloMosaic.Lib.StableHlo.Run
public import Idealize.ShloMosaic.Lib.Pipeline.Value

@[expose] public section

noncomputable section

namespace Cert.KernelIdealProof

open Cert.KernelIdeal Cert.KernelIdeal.Gen
open Idealize.ShloMosaic hiding ix1 ix2 ix3 ix4
open Idealize.ShloMosaic.ValueIdx Idealize.ShloMosaic.TcCoe

variable {F : FTy → Type} [FloatOps F]
variable (m : (ℓ : Loc nD τ sig) → Buf (Elt F) ℓ)

/-- The keys and the values as the host lays them out. -/
def kvOf (K V : S1x2048x8x128.Idx → Elt F .bf16) : S2x8x2048x128.Idx → Elt F .bf16 :=
  transpose S2x8x2048x128 [0, 2, 1, 3]
    (concatenate S2x2048x8x128 0
      [⟨S1x2048x8x128, broadcastInDim S1x2048x8x128 ![1, 2, 3] bcast_S2048x8x128_S1x2048x8x128_1_2_3 (shapeCast S2048x8x128 K shapeCasts_S1x2048x8x128_S2048x8x128)⟩,
        ⟨S1x2048x8x128, broadcastInDim S1x2048x8x128 ![1, 2, 3] bcast_S2048x8x128_S1x2048x8x128_1_2_3 (shapeCast S2048x8x128 V shapeCasts_S1x2048x8x128_S2048x8x128)⟩]
      concatenates_S1x2048x8x128_S1x2048x8x128_S2x2048x8x128_d0)
    transposes_S2x2048x8x128_S2x8x2048x128_0_2_1_3

theorem xAt_eq (c : Dev nD) : xAt m c = shapeCast S512x1024 (m ((c : Thread nD τ).loc main_arg0)) shapeCasts_S1x512x1024_S512x1024 := by
  show StableHlo.after hostOps0 (fun b => m (c, b)) (Proc.devRef .tc main_v1) = _
  after_results
  rfl

theorem kvAt_eq (c : Dev nD) : kvAt m c = kvOf (m ((c : Thread nD τ).loc main_arg2)) (m ((c : Thread nD τ).loc main_arg3)) := by
  show StableHlo.after hostOps0 (fun b => m (c, b)) (Proc.devRef .tc main_v7) = _
  after_results
  rfl

/-- The queries' input at an index. -/
theorem xAt_apply (c : Dev nD) (r : Fin 512) (e : Fin 1024) :
    xAt m c (ix2 r e) = (m ((c : Thread nD τ).loc main_arg0) : S1x512x1024.Idx → Elt F .bf16) (ix3 (0 : Fin 1) r e) := by
  rw [xAt_eq]
  exact shapeCast_1ab_ab_apply _ _ _ _

theorem layer_apply (K : S1x2048x8x128.Idx → Elt F .bf16) (j : Fin 2048) (h : Fin 8) (d : Fin 128) :
    broadcastInDim S1x2048x8x128 ![1, 2, 3] bcast_S2048x8x128_S1x2048x8x128_1_2_3 (shapeCast S2048x8x128 K shapeCasts_S1x2048x8x128_S2048x8x128)
      (ix4 (0 : Fin 1) j h d) = K (ix4 (0 : Fin 1) j h d) := by
  rw [broadcastInDim_apply _ _ _ _ (ix3 j h d) fun a => match a with
    | ⟨0, _⟩ => rfl
    | ⟨1, _⟩ => rfl
    | ⟨2, _⟩ => rfl]
  exact shapeCast_1abc_abc_apply _ _ _ _ _

/-- The keys lie in the first half. -/
theorem kvOf_key (K V : S1x2048x8x128.Idx → Elt F .bf16) (h : Fin 8) (j : Fin 2048) (d : Fin 128) :
    kvOf K V (ix4 (0 : Fin 2) h j d) = K (ix4 (0 : Fin 1) j h d) := by
  unfold kvOf
  rw [transpose_apply _ _ _ _ (ix4 (0 : Fin 2) j h d) fun b => match b with
    | ⟨0, _⟩ => rfl
    | ⟨1, _⟩ => rfl
    | ⟨2, _⟩ => rfl
    | ⟨3, _⟩ => rfl]
  refine (concatenate_pair_apply_left (s₁ := S1x2048x8x128) (s₂ := S1x2048x8x128) (t := S2x2048x8x128) _ _ _ _ _ rfl (ix4 (0 : Fin 1) j h d) fun b => match b with
    | ⟨0, _⟩ => rfl
    | ⟨1, _⟩ => rfl
    | ⟨2, _⟩ => rfl
    | ⟨3, _⟩ => rfl).trans ?_
  exact layer_apply K j h d

/-- The values lie in the second half. -/
theorem kvOf_value (K V : S1x2048x8x128.Idx → Elt F .bf16) (h : Fin 8) (j : Fin 2048) (d : Fin 128) :
    kvOf K V (ix4 (1 : Fin 2) h j d) = V (ix4 (0 : Fin 1) j h d) := by
  unfold kvOf
  rw [transpose_apply _ _ _ _ (ix4 (1 : Fin 2) j h d) fun b => match b with
    | ⟨0, _⟩ => rfl
    | ⟨1, _⟩ => rfl
    | ⟨2, _⟩ => rfl
    | ⟨3, _⟩ => rfl]
  refine (concatenate_pair_apply_right (s₁ := S1x2048x8x128) (s₂ := S1x2048x8x128) (t := S2x2048x8x128) _ _ _ _ _ rfl rfl (ix4 (0 : Fin 1) j h d) (fun b hb => match b, hb with
    | ⟨0, _⟩, hb => absurd rfl hb
    | ⟨1, _⟩, _ => rfl
    | ⟨2, _⟩, _ => rfl
    | ⟨3, _⟩, _ => rfl) rfl).trans ?_
  exact layer_apply V j h d

end Cert.KernelIdealProof
-- ==== Proof.Math.Ring.lean ====
/-
  The sums that travel around the ring: after four devices have added theirs, a head's weighted sum and its denominator are over
  all keys, and a device's block of the result is that of the attention of the whole arrays.
-/
module

public import proofs.«01_k».proof.Proof.Math.Heads
public import proofs.«01_k».proof.Proof.Math.Inputs

@[expose] public section

noncomputable section

namespace Cert.Attention

open Idealize.ShloMosaic hiding ix1 ix2 ix3 ix4
open Idealize.ShloMosaic.ValueIdx Idealize.ShloMosaic.TcCoe
open Cert.KernelIdeal Cert.KernelIdeal.Gen Cert.KernelIdealProof
open scoped BigOperators

/-- Row `r` of device `c`'s block of the queries, and key `j` of its block of the keys. -/
def row (c : Fin 4) (r : Fin 512) : Fin 2048 := ⟨512 * c.val + r.val, by omega⟩
def keyRow (c : Fin 4) (j : Fin 2048) : Fin 8192 := ⟨2048 * c.val + j.val, by omega⟩

/-- A device and the three before it are all the devices. -/
theorem sum_ring (c : Dev nD) (f : Dev nD → EReal) : f c + (f (prv c) + (f (prv (prv c)) + f (prv (prv (prv c))))) = ∑ k, f k := by
  have e : ∑ k, f k = f 0 + f 1 + f 2 + f 3 := Fin.sum_univ_four f
  have h : c = 0 ∨ c = 1 ∨ c = 2 ∨ c = 3 := by revert c; decide
  have p₀ : prv 0 = 3 := by decide
  have p₁ : prv 1 = 0 := by decide
  have p₂ : prv 2 = 1 := by decide
  have p₃ : prv 3 = 2 := by decide
  rw [e]
  rcases h with rfl | rfl | rfl | rfl
  · rw [p₀, p₃, p₂]; ac_rfl
  · rw [p₁, p₀, p₃]; ac_rfl
  · rw [p₂, p₁, p₀]; ac_rfl
  · rw [p₃, p₂, p₁]; ac_rfl

variable (X : XArr) (Wq : WArr) (K V : KArr) (Wo : WArr)
variable (m : (ℓ : Loc nD τ sig) → Buf (Elt Ideal) ℓ)

/-- The devices hold their blocks of the queries' input, the keys and the values, and the whole projections. -/
structure Holds : Prop where
  x : ∀ c r e, xAt m c (ix2 r e) = X (ix3 (0 : Fin 1) (row c r) e)
  wq : ∀ c, wqAt m c = Wq
  key : ∀ c h j d, kvAt m c (ix4 (0 : Fin 2) h j d) = K (ix4 (0 : Fin 1) (keyRow c j) h d)
  value : ∀ c h j d, kvAt m c (ix4 (1 : Fin 2) h j d) = V (ix4 (0 : Fin 1) (keyRow c j) h d)
  wo : ∀ c, woAt m c = Wo

/-- Device `c`'s queries. -/
abbrev qs (c : Dev nD) : S512x1024.Idx → EReal := qOf (F := Ideal) (xAt m c) (wqAt m c)

variable {X Wq K V Wo m}

/-- The weight of device `c`'s row `r` and device `k`'s key `j`. -/
theorem weight_eq (H : Holds X Wq K V Wo m) (c k : Dev nD) (h : Fin 8) (r : Fin 512) (j : Fin 2048) :
    weight (qs m c) (kvAt m k) h r j = Ideal.exp (score X Wq K h (row c r) (keyRow k j)) := by
  obtain ⟨s, hs, es⟩ := scale_real
  unfold weight score
  refine congrArg Ideal.exp ?_
  rw [mul_comm, es, ← coe_mul_sum _ hs]
  refine Finset.sum_congr rfl fun d _ => ?_
  show qOf (F := Ideal) (xAt m c) (wqAt m c) (ix2 r (col h d)) * _ = _
  rw [qOf_apply, H.key, H.wq, es, mul_comm _ (s : EReal), mul_assoc]
  refine congrArg (fun z => (s : EReal) * (z * K (ix4 (0 : Fin 1) (keyRow k j) h d))) (Finset.sum_congr rfl fun e _ => ?_)
  rw [H.x]

/-- What device `k` adds for device `c`'s row `r`. -/
def part (X : XArr) (Wq : WArr) (K V : KArr) (c k : Dev nD) (h : Fin 8) (r : Fin 512) (d : Fin 128) : EReal :=
  ∑ j : Fin 2048, Ideal.exp (score X Wq K h (row c r) (keyRow k j)) * V (ix4 (0 : Fin 1) (keyRow k j) h d)
def partL (X : XArr) (Wq : WArr) (K : KArr) (c k : Dev nD) (h : Fin 8) (r : Fin 512) : EReal :=
  ∑ j : Fin 2048, Ideal.exp (score X Wq K h (row c r) (keyRow k j))

theorem acc_part (H : Holds X Wq K V Wo m) (c k : Dev nD) (h : Fin 8) (r : Fin 512) (d : Fin 128) :
    ∑ j : Fin 2048, weight (qs m c) (kvAt m k) h r j * kvAt m k (ix4 (1 : Fin 2) h j d) = part X Wq K V c k h r d :=
  Finset.sum_congr rfl fun j _ => by rw [weight_eq H, H.value]
theorem l_part (H : Holds X Wq K V Wo m) (c k : Dev nD) (h : Fin 8) (r : Fin 512) :
    ∑ j : Fin 2048, weight (qs m c) (kvAt m k) h r j = partL X Wq K c k h r :=
  Finset.sum_congr rfl fun j _ => weight_eq H c k h r j

/-- The queries of hop `k`: those of the device `k + 1` places before. -/
theorem back₁ (c : Dev nD) : prv^[2 + 1] (prv c) = c := by revert c; decide
theorem back₂ (c : Dev nD) : prv^[1 + 1] (prv (prv c)) = c := by revert c; decide
theorem back₃ (c : Dev nD) : prv^[0 + 1] (prv (prv (prv c))) = c := by revert c; decide

theorem qAt_back (H : Holds X Wq K V Wo m) (k : ℕ) (c d : Dev nD) (e : prv^[k + 1] d = c) : qAt m k d = qs m c := by
  show qOf (F := Ideal) (xAt m (prv^[k + 1] d)) (wqAt m d) = qOf (F := Ideal) (xAt m c) (wqAt m c)
  rw [e, H.wq, H.wq]

/-- What arrives at device `c` last: the sums of the three devices before it. -/
theorem arrives_acc (H : Holds X Wq K V Wo m) (c : Dev nD) (h : Fin 8) (r : Fin 512) (d : Fin 128) :
    accAt m 2 (prv c) (ix3 h r d)
      = part X Wq K V c (prv c) h r d + (part X Wq K V c (prv (prv c)) h r d + part X Wq K V c (prv (prv (prv c))) h r d) := by
  have e : accAt m 2 (prv c) (ix3 h r d)
      = accH (F := Ideal) (qAt m 2 (prv c)) (kvAt m (prv c)) h (ix2 r d)
        + (accH (F := Ideal) (qAt m 1 (prv (prv c))) (kvAt m (prv (prv c))) h (ix2 r d)
          + accH (F := Ideal) (qAt m 0 (prv (prv (prv c)))) (kvAt m (prv (prv (prv c)))) h (ix2 r d)) := rfl
  rw [e, qAt_back H 2 c _ (back₁ c), qAt_back H 1 c _ (back₂ c), qAt_back H 0 c _ (back₃ c), accH_apply, accH_apply, accH_apply,
    acc_part H, acc_part H, acc_part H]
theorem arrives_l (H : Holds X Wq K V Wo m) (c : Dev nD) (h : Fin 8) (r : Fin 512) :
    lAt m 2 (prv c) (ix2 h r)
      = partL X Wq K c (prv c) h r + (partL X Wq K c (prv (prv c)) h r + partL X Wq K c (prv (prv (prv c))) h r) := by
  have e : lAt m 2 (prv c) (ix2 h r)
      = lH (F := Ideal) (qAt m 2 (prv c)) (kvAt m (prv c)) h (ix1 r)
        + (lH (F := Ideal) (qAt m 1 (prv (prv c))) (kvAt m (prv (prv c))) h (ix1 r)
          + lH (F := Ideal) (qAt m 0 (prv (prv (prv c)))) (kvAt m (prv (prv (prv c)))) h (ix1 r)) := rfl
  rw [e, qAt_back H 2 c _ (back₁ c), qAt_back H 1 c _ (back₂ c), qAt_back H 0 c _ (back₃ c), lH_apply, lH_apply, lH_apply,
    l_part H, l_part H, l_part H]

/-- The four devices' sums are the sums over all keys. -/
theorem part_sum (c : Dev nD) (h : Fin 8) (r : Fin 512) (d : Fin 128) :
    ∑ k, part X Wq K V c k h r d = weighted X Wq K V h (row c r) d :=
  (sum_blocks (n := 8192) 4 2048 (by norm_num) fun j => Ideal.exp (score X Wq K h (row c r) j) * V (ix4 (0 : Fin 1) j h d)).symm
theorem partL_sum (c : Dev nD) (h : Fin 8) (r : Fin 512) : ∑ k, partL X Wq K c k h r = total X Wq K h (row c r) :=
  (sum_blocks (n := 8192) 4 2048 (by norm_num) fun j => Ideal.exp (score X Wq K h (row c r) j)).symm

/-- A device's block of the result is that of the attention of the whole arrays. -/
theorem outAt_attention (H : Holds X Wq K V Wo m) (c : Dev nD) (r : Fin 512) (n : Fin 1024) :
    outAt m c (ix2 r n) = attention X Wq K V Wo (row c r) n := by
  unfold outAt
  rw [outOf_apply]
  refine Finset.sum_congr rfl fun h _ => Finset.sum_congr rfl fun d _ => ?_
  rw [acc_part H, l_part H, arrives_acc H, arrives_l H, sum_ring c fun k => part X Wq K V c k h r d, sum_ring c fun k => partL X Wq K c k h r,
    part_sum, partL_sum, H.wo]

end Cert.Attention
-- ==== Proof.Math.Reference.lean ====
/-
  The reference program's result is `attention` of its arguments when the queries' input, the query projection and the keys
  are finite: each stage of the program is read at an index.
-/
module

public import proofs.«01_k».proof.Proof.Math.Spec
public import proofs.«01_k».proof.Proof.Gen.ReferenceIdeal.Read

@[expose] public section

noncomputable section

namespace Cert.Attention

open Idealize.ShloMosaic Idealize.ShloMosaic.ValueIdx
open Cert.ReferenceIdeal Cert.ReferenceIdeal.Gen Cert.ReferenceIdeal.Read
open scoped BigOperators

variable (X : XArr) (Wq : WArr) (K V : KArr) (Wo : WArr)

/-- The reference's queries, by head. -/
theorem ref_query (i : Fin 2048) (h : Fin 8) (d : Fin 128) :
    val_main_v2 (F := Ideal) X Wq (ix4 (0 : Fin 1) i h d) = query X Wq i h d := by
  rw [val_main_v2_apply, val_main_v1_apply]
  show val_main_v0 (F := Ideal) X Wq _ = _
  rw [val_main_v0_apply]
  refine Finset.sum_congr rfl fun k _ => congrArg₂ (· * ·) (congrArg X ?_) (congrArg Wq ?_)
  · refine funext fun a => Fin.ext ?_
    match a with
    | ⟨0, _⟩ => rfl
    | ⟨1, _⟩ =>
      show (((0 * 2048 + i.val) * 8 + h.val) * 128 + d.val) / 1024 % 2048 = i.val
      omega
    | ⟨2, _⟩ => rfl
  · refine funext fun a => Fin.ext ?_
    match a with
    | ⟨0, _⟩ => rfl
    | ⟨1, _⟩ =>
      show (((0 * 2048 + i.val) * 8 + h.val) * 128 + d.val) % 1024 = 128 * h.val + d.val
      omega

/-- The reference's scores. -/
theorem ref_score (h : Fin 8) (i : Fin 2048) (j : Fin 8192) :
    val_main_v7 (F := Ideal) X Wq K (ix4 (0 : Fin 1) h i j) = score X Wq K h i j := by
  rw [val_main_v7_apply, val_main_v6_apply, val_main_v5_apply, val_main_v4_apply, val_main_cst_apply]
  show val_main_v3 (F := Ideal) X Wq K _ * scale = _
  rw [val_main_v3_apply]
  refine congrArg (· * scale) (Finset.sum_congr rfl fun k _ => congrArg₂ (· * ·) ?_ (congrArg K ?_))
  · rw [← ref_query]
    refine congrArg _ (funext fun a => Fin.ext ?_)
    match a with
    | ⟨0, _⟩ => rfl
    | ⟨1, _⟩ => rfl
    | ⟨2, _⟩ => rfl
    | ⟨3, _⟩ => rfl
  · refine funext fun a => Fin.ext ?_
    match a with
    | ⟨0, _⟩ => rfl
    | ⟨1, _⟩ => rfl
    | ⟨2, _⟩ => rfl
    | ⟨3, _⟩ => rfl

/-- The largest score of a row, which the reference subtracts. -/
def top (h : Fin 8) (i : Fin 2048) : EReal := val_main_v8 (F := Ideal) X Wq K (ix3 (0 : Fin 1) h i)

/-- It is a real number when the inputs are finite. -/
theorem top_real (hX : ∀ i, IsReal (X i)) (hW : ∀ i, IsReal (Wq i)) (hK : ∀ i, IsReal (K i)) (h : Fin 8) (i : Fin 2048) :
    IsReal (top X Wq K h i) := by
  have hb : val_main_cst_0 (F := Ideal) (Shape.Idx.first h_S_) = ⊥ := by
    rw [val_main_cst_0_apply]
    show Ideal.ofBits .f32 0xFF800000#32 = ⊥
    unfold Ideal.ofBits Ideal.ieee
    rfl
  unfold top val_main_v8
  rw [Host.reduce_eq_fold_single FloatOps.maximumf _ _ _ (by decide : S1x8x2048x8192.Reduces [3] S1x8x2048), hb]
  have all : ∀ y, IsReal (val_main_v7 (F := Ideal) X Wq K y) := fun y => by
    obtain ⟨u, h, i, j, rfl⟩ : ∃ (u : Fin 1) (h : Fin 8) (i : Fin 2048) (j : Fin 8192), y = ix4 u h i j := ⟨y 0, y 1, y 2, y 3, eq_ix4 y⟩
    rw [Subsingleton.elim u 0, ref_score]
    exact score_real hX hW hK h i j
  exact fold_max_isReal (ι := Fin 8192) _ fun k => all _

/-- The reference's weights. -/
theorem ref_weight (h : Fin 8) (i : Fin 2048) (j : Fin 8192) :
    val_main_v12 (F := Ideal) X Wq K (ix4 (0 : Fin 1) h i j) = Ideal.exp (score X Wq K h i j - top X Wq K h i) := by
  rw [val_main_v12_apply, val_main_v11_apply, val_main_v10_apply, val_main_v9_apply, ref_score]
  show Ideal.exp (score X Wq K h i j - _) = _
  unfold top
  refine congrArg (fun z => Ideal.exp (score X Wq K h i j - z)) (congrArg _ (funext fun a => Fin.ext ?_))
  match a with
  | ⟨0, _⟩ => rfl
  | ⟨1, _⟩ => rfl
  | ⟨2, _⟩ => rfl

/-- The reference's mean of the values. -/
theorem ref_mean (hX : ∀ i, IsReal (X i)) (hW : ∀ i, IsReal (Wq i)) (hK : ∀ i, IsReal (K i)) (i : Fin 2048) (h : Fin 8) (d : Fin 128) :
    val_main_v20 (F := Ideal) X Wq K V (ix4 (0 : Fin 1) i h d)
      = Ideal.div (weighted X Wq K V h i d) (total X Wq K h i) := by
  rw [val_main_v20_apply, val_main_v17_apply, val_main_v19_apply, val_main_v18_apply, val_main_v14_apply, val_main_v16_apply,
    val_main_v13_apply, val_main_cst_1_apply]
  show Ideal.div _ (Ideal.ofBits .f32 0x00000000#32 + _) = _
  rw [Ideal.ofBits_zero_f32, zero_add]
  unfold weighted total
  rw [← softmax_shift (fun j => score X Wq K h i j) (fun j => score_real hX hW hK h i j) _ (top_real X Wq K hX hW hK h i)]
  refine congrArg₂ Ideal.div (Finset.sum_congr rfl fun k _ => ?_) (Finset.sum_congr rfl fun k _ => ?_)
  · refine congrArg₂ (· * ·) ?_ ?_
    · rw [val_main_v15_apply]
      refine congrArg V (funext fun a => Fin.ext ?_)
      match a with
      | ⟨0, _⟩ => rfl
      | ⟨1, _⟩ => rfl
      | ⟨2, _⟩ => rfl
      | ⟨3, _⟩ => rfl
    · rw [← ref_weight]
      refine congrArg _ (funext fun a => Fin.ext ?_)
      match a with
      | ⟨0, _⟩ => rfl
      | ⟨1, _⟩ => rfl
      | ⟨2, _⟩ => rfl
      | ⟨3, _⟩ => rfl
  · rw [← ref_weight]
    refine congrArg _ (funext fun a => Fin.ext ?_)
    match a with
    | ⟨0, _⟩ => rfl
    | ⟨1, _⟩ => rfl
    | ⟨2, _⟩ => rfl
    | ⟨3, _⟩ => rfl

/-- The reference's result is the attention of its arguments. -/
theorem ref_attention (hX : ∀ i, IsReal (X i)) (hW : ∀ i, IsReal (Wq i)) (hK : ∀ i, IsReal (K i)) (i : Fin 2048) (n : Fin 1024) :
    val_main_v23 (F := Ideal) X Wq K V Wo (ix3 (0 : Fin 1) i n) = attention X Wq K V Wo i n := by
  rw [val_main_v23_apply, sum_blocks 8 128 (by norm_num)]
  refine Finset.sum_congr rfl fun h _ => Finset.sum_congr rfl fun d _ => congrArg₂ (· * ·) ?_ ?_
  · rw [val_main_v21_apply, ← ref_mean X Wq K V hX hW hK]
    refine congrArg _ (funext fun a => Fin.ext ?_)
    match a with
    | ⟨0, _⟩ => rfl
    | ⟨1, _⟩ =>
      show ((0 * 2048 + i.val) * 1024 + (128 * h.val + d.val)) / 1024 % 2048 = i.val
      omega
    | ⟨2, _⟩ =>
      show ((0 * 2048 + i.val) * 1024 + (128 * h.val + d.val)) / 128 % 8 = h.val
      omega
    | ⟨3, _⟩ =>
      show ((0 * 2048 + i.val) * 1024 + (128 * h.val + d.val)) % 128 = d.val
      omega
  · rw [val_main_v22_apply]
    refine congrArg Wo (funext fun a => Fin.ext ?_)
    match a with
    | ⟨0, _⟩ => rfl
    | ⟨1, _⟩ => rfl

end Cert.Attention
-- ==== Proof.Math.Blocks.lean ====
/-
  From the devices' arguments to the whole arrays: the devices' blocks are those of the reference's arguments, and the whole
  arrays are finite when every block is.
-/
module

public import proofs.«01_k».proof.Defs
public import proofs.«01_k».proof.Proof.Math.Ring
public import proofs.«01_k».proof.Proof.Math.Reference

@[expose] public section

noncomputable section

namespace Cert.Attention

open Idealize.ShloMosaic hiding ix2 ix3 ix4 eq_ix3 eq_ix4
open Idealize.ShloMosaic.ValueIdx Idealize.ShloMosaic.TcCoe
open Cert.KernelIdeal Cert.KernelIdeal.Gen Cert.KernelIdealProof
open scoped BigOperators

/-- A comparison of an absolute value with infinity that came out true was of a real number. -/
theorem isReal_of_finite {s : Shape} (h : (⟨0, ![]⟩ : Shape).BroadcastsInDim s (![] : Fin 0 → Fin s.rank)) (x : s.Idx → EReal)
    (e : cmpf (F := Ideal) .olt (Host.absf (F := Ideal) (φ := .bf16) x) (broadcastInDim s ![] h (constant ⟨0, ![]⟩ .bf16 0x7F80#16)) = fun _ => 1#1)
    (y : s.Idx) : IsReal (x y) := by
  have t : Ideal.ofBits .bf16 0x7F80#16 = ⊤ := by
    unfold Ideal.ofBits Ideal.ieee
    rfl
  have e' := congrFun e y
  refine isReal_of_abs_lt ?_
  by_contra hn
  have z : Ideal.cmp .olt (max (x y) (-(x y))) (Ideal.ofBits .bf16 0x7F80#16) = 1#1 := e'
  rw [t] at z
  simp [Ideal.cmp, hn] at z

/-- Every element of an array lies in a device's block. -/
theorem block_x (X : XArr) (y : (⟨3, ![1, 2048, 1024]⟩ : Shape).Idx) :
    ∃ (c : Fin 4) (z : (⟨3, ![1, 512, 1024]⟩ : Shape).Idx), X y = Layout.block ⟨3, ![1, 512, 1024]⟩ ⟨3, ![1, 2048, 1024]⟩ 1 4 c X (by decide) z := by
  obtain ⟨u, i, e, rfl⟩ : ∃ (u : Fin 1) (i : Fin 2048) (e : Fin 1024), y = ix3 u i e := ⟨y 0, y 1, y 2, eq_ix3 y⟩
  refine ⟨⟨i.val / 512, by omega⟩, ix3 u (⟨i.val % 512, by omega⟩ : Fin 512) e, congrArg X (funext fun a => Fin.ext ?_)⟩
  match a with
  | ⟨0, _⟩ => rfl
  | ⟨1, _⟩ => show i.val = i.val / 512 * 512 + i.val % 512; omega
  | ⟨2, _⟩ => rfl
theorem block_k (K : KArr) (y : (⟨4, ![1, 8192, 8, 128]⟩ : Shape).Idx) :
    ∃ (c : Fin 4) (z : (⟨4, ![1, 2048, 8, 128]⟩ : Shape).Idx),
      K y = Layout.block ⟨4, ![1, 2048, 8, 128]⟩ ⟨4, ![1, 8192, 8, 128]⟩ 1 4 c K (by decide) z := by
  obtain ⟨u, j, h, d, rfl⟩ : ∃ (u : Fin 1) (j : Fin 8192) (h : Fin 8) (d : Fin 128), y = ix4 u j h d := ⟨y 0, y 1, y 2, y 3, eq_ix4 y⟩
  refine ⟨⟨j.val / 2048, by omega⟩, ix4 u (⟨j.val % 2048, by omega⟩ : Fin 2048) h d, congrArg K (funext fun a => Fin.ext ?_)⟩
  match a with
  | ⟨0, _⟩ => rfl
  | ⟨1, _⟩ => show j.val = j.val / 2048 * 2048 + j.val % 2048; omega
  | ⟨2, _⟩ => rfl
  | ⟨3, _⟩ => rfl

/-- An element of a device's block, in the whole array. -/
theorem block_x_apply (X : XArr) (c : Fin 4) (r : Fin 512) (e : Fin 1024) :
    Layout.block ⟨3, ![1, 512, 1024]⟩ ⟨3, ![1, 2048, 1024]⟩ 1 4 c X (by decide) (ix3 (0 : Fin 1) r e) = X (ix3 (0 : Fin 1) (row c r) e) := by
  refine congrArg X (funext fun a => Fin.ext ?_)
  match a with
  | ⟨0, _⟩ => rfl
  | ⟨1, _⟩ => show c.val * 512 + r.val = 512 * c.val + r.val; omega
  | ⟨2, _⟩ => rfl
theorem block_k_apply (K : KArr) (c : Fin 4) (j : Fin 2048) (h : Fin 8) (d : Fin 128) :
    Layout.block ⟨4, ![1, 2048, 8, 128]⟩ ⟨4, ![1, 8192, 8, 128]⟩ 1 4 c K (by decide) (ix4 (0 : Fin 1) j h d)
      = K (ix4 (0 : Fin 1) (keyRow c j) h d) := by
  refine congrArg K (funext fun a => Fin.ext ?_)
  match a with
  | ⟨0, _⟩ => rfl
  | ⟨1, _⟩ => show c.val * 2048 + j.val = 2048 * c.val + j.val; omega
  | ⟨2, _⟩ => rfl
  | ⟨3, _⟩ => rfl

variable {X : XArr} {Wq : WArr} {K V : KArr} {Wo : WArr}
variable {m : (ℓ : Loc nD τ sig) → Buf (Elt Ideal) ℓ}

/-- The devices' arguments are blocks of the reference's. -/
abbrev Agree (X : XArr) (Wq : WArr) (K V : KArr) (Wo : WArr) (m : (ℓ : Loc nD τ sig) → Buf (Elt Ideal) ℓ) : Prop :=
  ∀ c : Dev nD,
    m ((c.tc : Thread nD τ).loc main_arg0) = Layout.block ⟨3, ![1, 512, 1024]⟩ ⟨3, ![1, 2048, 1024]⟩ 1 4 c X
    ∧ m ((c.tc : Thread nD τ).loc main_arg1) = Wq
    ∧ m ((c.tc : Thread nD τ).loc main_arg2) = Layout.block ⟨4, ![1, 2048, 8, 128]⟩ ⟨4, ![1, 8192, 8, 128]⟩ 1 4 c K
    ∧ m ((c.tc : Thread nD τ).loc main_arg3) = Layout.block ⟨4, ![1, 2048, 8, 128]⟩ ⟨4, ![1, 8192, 8, 128]⟩ 1 4 c V
    ∧ m ((c.tc : Thread nD τ).loc main_arg4) = Wo

/-- The kernel then reads blocks of the reference's arguments. -/
theorem holds_of_agree (A : Agree X Wq K V Wo m) : Holds X Wq K V Wo m where
  x c r e := by rw [xAt_apply, (A c).1]; exact block_x_apply X c r e
  wq c := (V_main_arg1 m c).trans (A c).2.1
  key c h j d := by rw [kvAt_eq, kvOf_key, (A c).2.2.1]; exact block_k_apply K c j h d
  value c h j d := by rw [kvAt_eq, kvOf_value, (A c).2.2.2.1]; exact block_k_apply V c j h d
  wo c := (V_main_arg4 m c).trans (A c).2.2.2.2

variable [hP : Cert.Pre_finite_KernelIdeal.Facts]

/-- Finite blocks make finite arrays. -/
theorem finite_x (A : Agree X Wq K V Wo m) (hm : Cert.Pre_KernelIdeal_finite_KernelIdeal m) (y) : IsReal (X y) := by
  obtain ⟨c, z, e⟩ := block_x X y
  rw [e, ← (A c).1]
  exact isReal_of_finite _ _ (hm c).1 z
theorem finite_wq (A : Agree X Wq K V Wo m) (hm : Cert.Pre_KernelIdeal_finite_KernelIdeal m) (y) : IsReal (Wq y) := by
  rw [← (A 0).2.1]
  exact isReal_of_finite _ _ (hm 0).2.1 y
theorem finite_k (A : Agree X Wq K V Wo m) (hm : Cert.Pre_KernelIdeal_finite_KernelIdeal m) (y) : IsReal (K y) := by
  obtain ⟨c, z, e⟩ := block_k K y
  rw [e, ← (A c).2.2.1]
  exact isReal_of_finite _ _ (hm c).2.2 z

/-- A device's result is its block of the reference's result. -/
theorem result_block (A : Agree X Wq K V Wo m) (hm : Cert.Pre_KernelIdeal_finite_KernelIdeal m) (c : Dev nD) :
    (broadcastInDim S1x512x1024 ![1, 2] bcast_S512x1024_S1x512x1024_1_2 (outAt m c) : S1x512x1024.Idx → Elt Ideal .f32)
      = Layout.block ⟨3, ![1, 512, 1024]⟩ ⟨3, ![1, 2048, 1024]⟩ 1 4 c (Cert.ReferenceIdeal.Read.val_main_v23 (F := Ideal) X Wq K V Wo) := by
  funext y
  obtain ⟨u, r, n, rfl⟩ : ∃ (u : Fin 1) (r : Fin 512) (n : Fin 1024), y = ix3 u r n := ⟨y 0, y 1, y 2, eq_ix3 y⟩
  rw [Subsingleton.elim u 0]
  refine Eq.trans ?_ (block_x_apply _ c r n).symm
  rw [ref_attention X Wq K V Wo (finite_x A hm) (finite_wq A hm) (finite_k A hm), ← outAt_attention (holds_of_agree A) c r n]
  exact broadcastInDim_apply _ _ _ _ (ix2 r n) fun a => match a with
    | ⟨0, _⟩ => rfl
    | ⟨1, _⟩ => rfl

end Cert.Attention
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KI.Launch
public import proofs.«01_k».proof.Proof.K.Launch
public import proofs.«01_k».proof.Proof.Math.Blocks
public import Idealize.ShloMosaic.Adequacy
public import Idealize.ShloMosaic.Init

@[expose] public section

noncomputable section

namespace Cert.Proof

open Idealize.ShloMosaic Idealize.ShloMosaic.TcCoe Idealize.SL.Sem

/-- The kernel runs at the machine's floats, its arguments end unchanged, and every counter ends at zero. -/
theorem frame_kernel : Cert.quiescent_Kernel := fun m ρ _ =>
  (θ_run Cert.Kernel.defs _ _).mono (fun _ h => ⟨fun c => (h.1 c).1, h.2⟩) (Cert.KernelProof.run_main (F := Bits) m ρ)

/-- The kernel runs over the extended reals, its arguments end unchanged, and every counter ends at zero. -/
theorem frame_ideal : Cert.quiescent_KernelIdeal := fun m ρ _ =>
  (θ_run Cert.KernelIdeal.defs _ _).mono (fun _ h => ⟨fun c => (h.1 c).1, h.2⟩) (Cert.KernelIdealProof.run_main (F := Ideal) m ρ)

/-- The reference runs over the extended reals, its arguments end unchanged, and every counter ends at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem finite_kernel : Cert.Pre_finite_KernelIdeal.Facts := ⟨by decide, by decide, by decide⟩
theorem finite_reference : Cert.Pre_finite_ReferenceIdeal.Facts := ⟨by decide, by decide, by decide⟩

/-- When the queries' input, the query projection and the keys are finite, each device's result is its block of the
    reference's result. -/
theorem attention_blocks [hP : Cert.Pre_finite_KernelIdeal.Facts] : Cert.algebraic_KernelIdeal_ReferenceIdeal_pre_finite_KernelIdeal :=
  fun m ρ _ ρ' hm A =>
    ⟨_, (θ_run Cert.KernelIdeal.defs _ _).mono
        (fun _ h c => ⟨(h.1 c).2.1.trans (Cert.Attention.result_block A hm c), (h.1 c).1⟩) (Cert.KernelIdealProof.run_main (F := Ideal) m ρ),
      (θ_run Cert.ReferenceIdeal.defs _ _).mono
        (fun _ h => ⟨(h 0).1.trans (Cert.ReferenceIdeal.Read.val_main_v23_eq _ _ _ _ _), (h 0).2⟩)
        (Cert.ReferenceIdeal.Value.run (F := Ideal) _ ρ')⟩

theorem claim : Cert.Claim :=
  ⟨Cert.Kernel.Gen.facts, Cert.KernelIdeal.Gen.facts, Cert.ReferenceIdeal.Gen.facts, finite_kernel, finite_reference,
    frame_kernel, frame_ideal, fun m ρ _ => frame_ideal m ρ trivial, frame_reference, fun m ρ _ => frame_reference m ρ trivial,
    trivial, attention_blocks (hP := finite_kernel)⟩

end Cert.Proof

end
